-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x2048x768 : Shape := ⟨3, ![1, 2048, 768]⟩
abbrev S768x768 : Shape := ⟨2, ![768, 768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_v8 : IVec S_ 1) (main_v12 : IVec S_ 1) (main_v15 : IVec S768x768 1) (main_c_5 : IVec S_ 1) : IVec S_ 1 :=
  let main_v16 : IVec S_ 1 := (fun x v => Host.reduce IntOp.andi x v reducesTo_S768x768_S_d0_1 h_S_) main_v15 main_c_5
  let main_v17 : IVec S_ 1 := andi main_v12 main_v16
  let main_v18 : IVec S_ 1 := andi main_v8 main_v17
  main_v18

def fn {F : FTy → Type} [FloatOps F] (main_arg0 : FVec F S1x2048x768 .f32) (main_arg1 : FVec F S1x2048x768 .f32) (main_arg2 : FVec F S1x2048x768 .f32) (main_arg3 : FVec F S768x768 .f32) (main_arg4 : FVec F S768x768 .f32) (main_arg5 : FVec F S768x768 .f32) (main_arg6 : FVec F S768x768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S1x2048x768 .f32 := Host.absf main_arg1
  let main_cst_0 : FVec F S_ .f32 := constant S_ .f32 0x7F800000#32
  let main_v5 : FVec F S1x2048x768 .f32 := broadcastInDim S1x2048x768 ![] bcast_S_S1x2048x768 main_cst_0
  let main_v6 : IVec S1x2048x768 1 := cmpf .olt main_v4 main_v5
  let main_c_1 : IVec S_ 1 := constantI S_ 1 1#1
  let main_v7 : IVec S_ 1 := (fun x v => Host.reduce IntOp.andi x v reducesTo_S1x2048x768_S_d0_1_2 h_S_) main_v6 main_c_1
  let main_v8 : IVec S_ 1 := andi main_v3 main_v7
  let main_v9 : FVec F S768x768 .f32 := Host.absf main_arg3
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : FVec F S768x768 .f32 := Host.absf main_arg4
  let main_cst_4 : FVec F S_ .f32 := constant S_ .f32 0x7F800000#32
  let main_v14 : FVec F S768x768 .f32 := broadcastInDim S768x768 ![] bcast_S_S768x768 main_cst_4
  let main_v15 : IVec S768x768 1 := cmpf .olt main_v13 main_v14
  let main_c_5 : IVec S_ 1 := constantI S_ 1 1#1
  fn_part1 (F := F) main_v8 main_v12 main_v15 main_c_5
-- ==== Kernel.lean ====
abbrev S1x2048x768 : Shape := ⟨3, ![1, 2048, 768]⟩
abbrev S768x768 : Shape := ⟨2, ![768, 768]⟩
abbrev S2048x768 : Shape := ⟨2, ![2048, 768]⟩
abbrev S768 : Shape := ⟨1, ![768]⟩
abbrev S_ : Shape := ⟨0, ![]⟩
abbrev S768x1 : Shape := ⟨2, ![768, 1]⟩
abbrev S512x768 : Shape := ⟨2, ![512, 768]⟩
abbrev S2080x768 : Shape := ⟨2, ![2080, 768]⟩
abbrev S2048x384 : Shape := ⟨2, ![2048, 384]⟩
abbrev S8x384 : Shape := ⟨2, ![8, 384]⟩
abbrev S32x768 : Shape := ⟨2, ![32, 768]⟩
abbrev S544x768 : Shape := ⟨2, ![544, 768]⟩
abbrev S768x48 : Shape := ⟨2, ![768, 48]⟩
abbrev S512x48 : Shape := ⟨2, ![512, 48]⟩
abbrev S512x384 : Shape := ⟨2, ![512, 384]⟩
abbrev S512x192 : Shape := ⟨2, ![512, 192]⟩
abbrev S384 : Shape := ⟨1, ![384]⟩
abbrev S1x384 : Shape := ⟨2, ![1, 384]⟩
abbrev S512x12 : Shape := ⟨2, ![512, 12]⟩
abbrev S512x24 : Shape := ⟨2, ![512, 24]⟩
abbrev S512x96 : Shape := ⟨2, ![512, 96]⟩

abbrev nBuf : Space → Nat
  | .hbm => 101
  | .vmem => 16
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S768, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S768, .i32⟩
  | .hbm, ⟨18, _⟩ => ⟨S768, .i32⟩
  | .hbm, ⟨19, _⟩ => ⟨S_, .i32⟩
  | .hbm, ⟨20, _⟩ => ⟨S768, .i32⟩
  | .hbm, ⟨21, _⟩ => ⟨S768, .i1⟩
  | .hbm, ⟨22, _⟩ => ⟨S_, .i32⟩
  | .hbm, ⟨23, _⟩ => ⟨S768, .i32⟩
  | .hbm, ⟨24, _⟩ => ⟨S768, .i1⟩
  | .hbm, ⟨25, _⟩ => ⟨S_, .i32⟩
  | .hbm, ⟨26, _⟩ => ⟨S_, .i1⟩
  | .hbm, ⟨27, _⟩ => ⟨S768, .i1⟩
  | .hbm, ⟨28, _⟩ => ⟨S768, .i1⟩
  | .hbm, ⟨29, _⟩ => ⟨S768, .i1⟩
  | .hbm, ⟨30, _⟩ => ⟨S768, .i32⟩
  | .hbm, ⟨31, _⟩ => ⟨S768, .i32⟩
  | .hbm, ⟨32, _⟩ => ⟨S768, .i32⟩
  | .hbm, ⟨33, _⟩ => ⟨S_, .i32⟩
  | .hbm, ⟨34, _⟩ => ⟨S768, .i32⟩
  | .hbm, ⟨35, _⟩ => ⟨S768, .i32⟩
  | .hbm, ⟨36, _⟩ => ⟨S768, .i32⟩
  | .hbm, ⟨37, _⟩ => ⟨S_, .i32⟩
  | .hbm, ⟨38, _⟩ => ⟨S_, .i32⟩
  | .hbm, ⟨39, _⟩ => ⟨S768, .i32⟩
  | .hbm, ⟨40, _⟩ => ⟨S768, .i32⟩
  | .hbm, ⟨41, _⟩ => ⟨S768, .i32⟩
  | .hbm, ⟨42, _⟩ => ⟨S_, .i32⟩
  | .hbm, ⟨43, _⟩ => ⟨S768, .i32⟩
  | .hbm, ⟨44, _⟩ => ⟨S768, .i1⟩
  | .hbm, ⟨45, _⟩ => ⟨S768, .i32⟩
  | .hbm, ⟨46, _⟩ => ⟨S768, .i32⟩
  | .hbm, ⟨47, _⟩ => ⟨S_, .i32⟩
  | .hbm, ⟨48, _⟩ => ⟨S768, .i32⟩
  | .hbm, ⟨49, _⟩ => ⟨S768, .i1⟩
  | .hbm, ⟨50, _⟩ => ⟨S768, .i1⟩
  | .hbm, ⟨51, _⟩ => ⟨S_, .i32⟩
  | .hbm, ⟨52, _⟩ => ⟨S768, .i32⟩
  | .hbm, ⟨53, _⟩ => ⟨S768, .i32⟩
  | .hbm, ⟨54, _⟩ => ⟨S768, .i32⟩
  | .hbm, ⟨55, _⟩ => ⟨S768, .i32⟩
  | .hbm, ⟨56, _⟩ => ⟨S768x768, .f32⟩
  | .hbm, ⟨57, _⟩ => ⟨S_, .i32⟩
  | .hbm, ⟨58, _⟩ => ⟨S768, .i32⟩
  | .hbm, ⟨59, _⟩ => ⟨S768, .i1⟩
  | .hbm, ⟨60, _⟩ => ⟨S_, .i32⟩
  | .hbm, ⟨61, _⟩ => ⟨S768, .i32⟩
  | .hbm, ⟨62, _⟩ => ⟨S768, .i32⟩
  | .hbm, ⟨63, _⟩ => ⟨S768, .i32⟩
  | .hbm, ⟨64, _⟩ => ⟨S768x1, .i32⟩
  | .hbm, ⟨65, _⟩ => ⟨S768x768, .f32⟩
  | .hbm, ⟨66, _⟩ => ⟨S_, .f32⟩
  | .hbm, ⟨67, _⟩ => ⟨S768x768, .f32⟩
  | .hbm, ⟨68, _⟩ => ⟨S768x768, .f32⟩
  | .hbm, ⟨69, _⟩ => ⟨S768x768, .f32⟩
  | .hbm, ⟨70, _⟩ => ⟨S_, .i32⟩
  | .hbm, ⟨71, _⟩ => ⟨S768, .i32⟩
  | .hbm, ⟨72, _⟩ => ⟨S768, .i1⟩
  | .hbm, ⟨73, _⟩ => ⟨S_, .i32⟩
  | .hbm, ⟨74, _⟩ => ⟨S768, .i32⟩
  | .hbm, ⟨75, _⟩ => ⟨S768, .i32⟩
  | .hbm, ⟨76, _⟩ => ⟨S768, .i32⟩
  | .hbm, ⟨77, _⟩ => ⟨S768x1, .i32⟩
  | .hbm, ⟨78, _⟩ => ⟨S768x768, .f32⟩
  | .hbm, ⟨79, _⟩ => ⟨S768x768, .f32⟩
  | .hbm, ⟨80, _⟩ => ⟨S_, .i32⟩
  | .hbm, ⟨81, _⟩ => ⟨S768, .i32⟩
  | .hbm, ⟨82, _⟩ => ⟨S768, .i1⟩
  | .hbm, ⟨83, _⟩ => ⟨S_, .i32⟩
  | .hbm, ⟨84, _⟩ => ⟨S768, .i32⟩
  | .hbm, ⟨85, _⟩ => ⟨S768, .i32⟩
  | .hbm, ⟨86, _⟩ => ⟨S768, .i32⟩
  | .hbm, ⟨87, _⟩ => ⟨S768x1, .i32⟩
  | .hbm, ⟨88, _⟩ => ⟨S768x768, .f32⟩
  | .hbm, ⟨89, _⟩ => ⟨S768x768, .f32⟩
  | .hbm, ⟨90, _⟩ => ⟨S_, .i32⟩
  | .hbm, ⟨91, _⟩ => ⟨S768, .i32⟩
  | .hbm, ⟨92, _⟩ => ⟨S768, .i1⟩
  | .hbm, ⟨93, _⟩ => ⟨S_, .i32⟩
  | .hbm, ⟨94, _⟩ => ⟨S768, .i32⟩
  | .hbm, ⟨95, _⟩ => ⟨S768, .i32⟩
  | .hbm, ⟨96, _⟩ => ⟨S768, .i32⟩
  | .hbm, ⟨97, _⟩ => ⟨S768x1, .i32⟩
  | .hbm, ⟨98, _⟩ => ⟨S768x768, .f32⟩
  | .hbm, ⟨99, _⟩ => ⟨S2048x768, .f32⟩
  | .hbm, ⟨100, _⟩ => ⟨S1x2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S768x768, .f32⟩
  | .local _ .vmem, ⟨7, _⟩ => ⟨S768x768, .f32⟩
  | .local _ .vmem, ⟨8, _⟩ => ⟨S768x768, .f32⟩
  | .local _ .vmem, ⟨9, _⟩ => ⟨S768x768, .f32⟩
  | .local _ .vmem, ⟨10, _⟩ => ⟨S512x768, .f32⟩
  | .local _ .vmem, ⟨11, _⟩ => ⟨S512x768, .f32⟩
  | .local _ .vmem, ⟨12, _⟩ => ⟨S2080x768, .f32⟩
  | .local _ .vmem, ⟨13, _⟩ => ⟨S2080x768, .f32⟩
  | .local _ .vmem, ⟨14, _⟩ => ⟨S2048x384, .f32⟩
  | .local _ .vmem, ⟨15, _⟩ => ⟨S8x384, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_c : Ref sig .tc := ⟨.hbm, 11, rfl⟩
abbrev main_call0_call0_v0 : Ref sig .tc := ⟨.hbm, 12, rfl⟩
abbrev main_call0_call0_c : Ref sig .tc := ⟨.hbm, 13, rfl⟩
abbrev main_call0_call0_v1 : Ref sig .tc := ⟨.hbm, 14, rfl⟩
abbrev main_call0_call0_c_0 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_c_1 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_c_2 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_c_3 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_v4 : Ref sig .tc := ⟨.hbm, 32, rfl⟩
abbrev main_call0_c_0 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_c_1 : Ref sig .tc := ⟨.hbm, 37, rfl⟩
abbrev main_call0_call1_v0 : Ref sig .tc := ⟨.hbm, 38, rfl⟩
abbrev main_call0_call1_v1 : Ref sig .tc := ⟨.hbm, 39, rfl⟩
abbrev main_call0_call1_v2 : Ref sig .tc := ⟨.hbm, 40, rfl⟩
abbrev main_call0_call1_v3 : Ref sig .tc := ⟨.hbm, 41, rfl⟩
abbrev main_call0_call1_v4 : Ref sig .tc := ⟨.hbm, 42, rfl⟩
abbrev main_call0_call1_v5 : Ref sig .tc := ⟨.hbm, 43, rfl⟩
abbrev main_call0_call1_v6 : Ref sig .tc := ⟨.hbm, 44, rfl⟩
abbrev main_call0_call1_v7 : Ref sig .tc := ⟨.hbm, 45, rfl⟩
abbrev main_call0_call1_v8 : Ref sig .tc := ⟨.hbm, 46, rfl⟩
abbrev main_call0_call1_c : Ref sig .tc := ⟨.hbm, 47, rfl⟩
abbrev main_call0_call1_v9 : Ref sig .tc := ⟨.hbm, 48, rfl⟩
abbrev main_call0_call1_v10 : Ref sig .tc := ⟨.hbm, 49, rfl⟩
abbrev main_call0_call1_v11 : Ref sig .tc := ⟨.hbm, 50, rfl⟩
abbrev main_call0_call1_c_0 : Ref sig .tc := ⟨.hbm, 51, rfl⟩
abbrev main_call0_call1_v12 : Ref sig .tc := ⟨.hbm, 52, rfl⟩
abbrev main_call0_call1_v13 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_c_2 : Ref sig .tc := ⟨.hbm, 57, rfl⟩
abbrev main_call0_v11 : Ref sig .tc := ⟨.hbm, 58, rfl⟩
abbrev main_call0_v12 : Ref sig .tc := ⟨.hbm, 59, rfl⟩
abbrev main_call0_c_3 : Ref sig .tc := ⟨.hbm, 60, rfl⟩
abbrev main_call0_v13 : Ref sig .tc := ⟨.hbm, 61, rfl⟩
abbrev main_call0_v14 : Ref sig .tc := ⟨.hbm, 62, rfl⟩
abbrev main_call0_v15 : Ref sig .tc := ⟨.hbm, 63, rfl⟩
abbrev main_call0_v16 : Ref sig .tc := ⟨.hbm, 64, rfl⟩
abbrev main_call0_v17 : Ref sig .tc := ⟨.hbm, 65, rfl⟩
abbrev main_call0_cst : Ref sig .tc := ⟨.hbm, 66, rfl⟩
abbrev main_call0_v18 : Ref sig .tc := ⟨.hbm, 67, rfl⟩
abbrev main_call0_v19 : Ref sig .tc := ⟨.hbm, 68, rfl⟩
abbrev main_call0_v20 : Ref sig .tc := ⟨.hbm, 69, rfl⟩
abbrev main_call0_c_4 : Ref sig .tc := ⟨.hbm, 70, rfl⟩
abbrev main_call0_v21 : Ref sig .tc := ⟨.hbm, 71, rfl⟩
abbrev main_call0_v22 : Ref sig .tc := ⟨.hbm, 72, rfl⟩
abbrev main_call0_c_5 : Ref sig .tc := ⟨.hbm, 73, rfl⟩
abbrev main_call0_v23 : Ref sig .tc := ⟨.hbm, 74, rfl⟩
abbrev main_call0_v24 : Ref sig .tc := ⟨.hbm, 75, rfl⟩
abbrev main_call0_v25 : Ref sig .tc := ⟨.hbm, 76, rfl⟩
abbrev main_call0_v26 : Ref sig .tc := ⟨.hbm, 77, rfl⟩
abbrev main_call0_v27 : Ref sig .tc := ⟨.hbm, 78, rfl⟩
abbrev main_call0_v28 : Ref sig .tc := ⟨.hbm, 79, rfl⟩
abbrev main_call0_c_6 : Ref sig .tc := ⟨.hbm, 80, rfl⟩
abbrev main_call0_v29 : Ref sig .tc := ⟨.hbm, 81, rfl⟩
abbrev main_call0_v30 : Ref sig .tc := ⟨.hbm, 82, rfl⟩
abbrev main_call0_c_7 : Ref sig .tc := ⟨.hbm, 83, rfl⟩
abbrev main_call0_v31 : Ref sig .tc := ⟨.hbm, 84, rfl⟩
abbrev main_call0_v32 : Ref sig .tc := ⟨.hbm, 85, rfl⟩
abbrev main_call0_v33 : Ref sig .tc := ⟨.hbm, 86, rfl⟩
abbrev main_call0_v34 : Ref sig .tc := ⟨.hbm, 87, rfl⟩
abbrev main_call0_v35 : Ref sig .tc := ⟨.hbm, 88, rfl⟩
abbrev main_call0_v36 : Ref sig .tc := ⟨.hbm, 89, rfl⟩
abbrev main_call0_c_8 : Ref sig .tc := ⟨.hbm, 90, rfl⟩
abbrev main_call0_v37 : Ref sig .tc := ⟨.hbm, 91, rfl⟩
abbrev main_call0_v38 : Ref sig .tc := ⟨.hbm, 92, rfl⟩
abbrev main_call0_c_9 : Ref sig .tc := ⟨.hbm, 93, rfl⟩
abbrev main_call0_v39 : Ref sig .tc := ⟨.hbm, 94, rfl⟩
abbrev main_call0_v40 : Ref sig .tc := ⟨.hbm, 95, rfl⟩
abbrev main_call0_v41 : Ref sig .tc := ⟨.hbm, 96, rfl⟩
abbrev main_call0_v42 : Ref sig .tc := ⟨.hbm, 97, rfl⟩
abbrev main_call0_v43 : Ref sig .tc := ⟨.hbm, 98, rfl⟩
abbrev main_call0_v44 : Ref sig .tc := ⟨.hbm, 99, rfl⟩
abbrev main_v0 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c512_i32 : BitVec 32 := 512#32
  let v19 : BitVec 32 := Scalar.muli arg1 c512_i32
  let c32_i32 : BitVec 32 := 32#32
  let v20 : BitVec 32 := Scalar.addi v19 c32_i32
  let v21 : Index := Scalar.indexCast v20
  let c0_12 : Index := 0#32
  ![v21.toNat, 0]
def k0_off2 (i : grid0.Coords) : Fin 2 → Nat :=
  let arg1 : BitVec 32 := BitVec.ofNat 32 (i 1).val
  let c512_i32_21 : BitVec 32 := 512#32
  let v36 : BitVec 32 := Scalar.muli arg1 c512_i32_21
  let v37 : Index := Scalar.indexCast v36
  let c0_22 : Index := 0#32
  ![v37.toNat, 0]
def k0_off3 (i : grid0.Coords) : Fin 2 → Nat :=
  let arg1 : BitVec 32 := BitVec.ofNat 32 (i 1).val
  let c512_i32_61 : BitVec 32 := 512#32
  let v199 : BitVec 32 := Scalar.muli arg1 c512_i32_61
  let v200 : Index := Scalar.indexCast v199
  let c0_62 : Index := 0#32
  ![v200.toNat, 0]
def k0_off4 (i : grid0.Coords) : Fin 2 → Nat :=
  let arg1 : BitVec 32 := BitVec.ofNat 32 (i 1).val
  let c512_i32_68 : BitVec 32 := 512#32
  let v250 : BitVec 32 := Scalar.muli arg1 c512_i32_68
  let v251 : Index := Scalar.indexCast v250
  let c48 : Index := 48#32
  ![v251.toNat, 48]
def k0_off5 (i : grid0.Coords) : Fin 2 → Nat :=
  let arg1 : BitVec 32 := BitVec.ofNat 32 (i 1).val
  let c512_i32_74 : BitVec 32 := 512#32
  let v301 : BitVec 32 := Scalar.muli arg1 c512_i32_74
  let v302 : Index := Scalar.indexCast v301
  let c96 : Index := 96#32
  ![v302.toNat, 96]
def k0_off6 (i : grid0.Coords) : Fin 2 → Nat :=
  let arg1 : BitVec 32 := BitVec.ofNat 32 (i 1).val
  let c512_i32_81 : BitVec 32 := 512#32
  let v352 : BitVec 32 := Scalar.muli arg1 c512_i32_81
  let v353 : Index := Scalar.indexCast v352
  let c144 : Index := 144#32
  ![v353.toNat, 144]
def k0_off7 (i : grid0.Coords) : Fin 2 → Nat :=
  let arg1 : BitVec 32 := BitVec.ofNat 32 (i 1).val
  let c512_i32_87 : BitVec 32 := 512#32
  let v403 : BitVec 32 := Scalar.muli arg1 c512_i32_87
  let v404 : Index := Scalar.indexCast v403
  let c192 : Index := 192#32
  ![v404.toNat, 192]
def k0_off8 (i : grid0.Coords) : Fin 2 → Nat :=
  let arg1 : BitVec 32 := BitVec.ofNat 32 (i 1).val
  let c512_i32_93 : BitVec 32 := 512#32
  let v454 : BitVec 32 := Scalar.muli arg1 c512_i32_93
  let v455 : Index := Scalar.indexCast v454
  let c240 : Index := 240#32
  ![v455.toNat, 240]
def k0_off9 (i : grid0.Coords) : Fin 2 → Nat :=
  let arg1 : BitVec 32 := BitVec.ofNat 32 (i 1).val
  let c512_i32_99 : BitVec 32 := 512#32
  let v505 : BitVec 32 := Scalar.muli arg1 c512_i32_99
  let v506 : Index := Scalar.indexCast v505
  let c288 : Index := 288#32
  ![v506.toNat, 288]
def k0_off10 (i : grid0.Coords) : Fin 2 → Nat :=
  let arg1 : BitVec 32 := BitVec.ofNat 32 (i 1).val
  let c512_i32_105 : BitVec 32 := 512#32
  let v556 : BitVec 32 := Scalar.muli arg1 c512_i32_105
  let v557 : Index := Scalar.indexCast v556
  let c336 : Index := 336#32
  ![v557.toNat, 336]
def k0_cond3 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off11 (i : grid0.Coords) : Fin 2 → Nat :=
  let arg1 : BitVec 32 := BitVec.ofNat 32 (i 1).val
  let c512_i32 : BitVec 32 := 512#32
  let v11 : BitVec 32 := Scalar.muli arg1 c512_i32
  let v12 : Index := Scalar.indexCast v11
  let c0_6 : Index := 0#32
  ![v12.toNat, 0]
def k0_off12 (i : grid0.Coords) : Fin 2 → Nat :=
  let arg1 : BitVec 32 := BitVec.ofNat 32 (i 1).val
  let c512_i32_7 : BitVec 32 := 512#32
  let v19 : BitVec 32 := Scalar.muli arg1 c512_i32_7
  let v20 : Index := Scalar.indexCast v19
  let c0_8 : Index := 0#32
  ![v20.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== ReferenceIdeal.lean ====
abbrev S1x2048x768 : Shape := ⟨3, ![1, 2048, 768]⟩
abbrev S768x768 : Shape := ⟨2, ![768, 768]⟩
abbrev S1x2048x12x64 : Shape := ⟨4, ![1, 2048, 12, 64]⟩
abbrev S1x12x2048x64 : Shape := ⟨4, ![1, 12, 2048, 64]⟩
abbrev S32 : Shape := ⟨1, ![32]⟩
abbrev S2048 : Shape := ⟨1, ![2048]⟩
abbrev S32x2048 : Shape := ⟨2, ![32, 2048]⟩
abbrev S_ : Shape := ⟨0, ![]⟩
abbrev S1x2048 : Shape := ⟨2, ![1, 2048]⟩
abbrev S32x2048x1 : Shape := ⟨3, ![32, 2048, 1]⟩
abbrev S1x12x32x2048x64 : Shape := ⟨5, ![1, 12, 32, 2048, 64]⟩
abbrev S1x12x2048x32 : Shape := ⟨4, ![1, 12, 2048, 32]⟩
abbrev S1x12x32x2048 : Shape := ⟨4, ![1, 12, 32, 2048]⟩
abbrev S1x1x32x2048 : Shape := ⟨4, ![1, 1, 32, 2048]⟩
abbrev S1x12x32 : Shape := ⟨3, ![1, 12, 32]⟩
abbrev S1x12x32x1 : Shape := ⟨4, ![1, 12, 32, 1]⟩
abbrev S1x12x32x2048x1 : Shape := ⟨5, ![1, 12, 32, 2048, 1]⟩

abbrev nBuf : Space → Nat
  | .hbm => 103
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S768x768, .f32⟩
  | .hbm, ⟨8, _⟩ => ⟨S1x2048x768, .f32⟩
  | .hbm, ⟨9, _⟩ => ⟨S768x768, .f32⟩
  | .hbm, ⟨10, _⟩ => ⟨S1x2048x768, .f32⟩
  | .hbm, ⟨11, _⟩ => ⟨S768x768, .f32⟩
  | .hbm, ⟨12, _⟩ => ⟨S1x2048x768, .f32⟩
  | .hbm, ⟨13, _⟩ => ⟨S1x2048x12x64, .f32⟩
  | .hbm, ⟨14, _⟩ => ⟨S1x12x2048x64, .f32⟩
  | .hbm, ⟨15, _⟩ => ⟨S1x2048x12x64, .f32⟩
  | .hbm, ⟨16, _⟩ => ⟨S1x12x2048x64, .f32⟩
  | .hbm, ⟨17, _⟩ => ⟨S1x2048x12x64, .f32⟩
  | .hbm, ⟨18, _⟩ => ⟨S1x12x2048x64, .f32⟩
  | .hbm, ⟨19, _⟩ => ⟨S32, .i32⟩
  | .hbm, ⟨20, _⟩ => ⟨S2048, .i32⟩
  | .hbm, ⟨21, _⟩ => ⟨S32x2048, .i32⟩
  | .hbm, ⟨22, _⟩ => ⟨S32x2048, .i32⟩
  | .hbm, ⟨23, _⟩ => ⟨S_, .i32⟩
  | .hbm, ⟨24, _⟩ => ⟨S32x2048, .i32⟩
  | .hbm, ⟨25, _⟩ => ⟨S32x2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S1x2048, .i32⟩
  | .hbm, ⟨34, _⟩ => ⟨S32x2048, .i32⟩
  | .hbm, ⟨35, _⟩ => ⟨S32x2048, .i32⟩
  | .hbm, ⟨36, _⟩ => ⟨S_, .i32⟩
  | .hbm, ⟨37, _⟩ => ⟨S32x2048, .i32⟩
  | .hbm, ⟨38, _⟩ => ⟨S32x2048, .i1⟩
  | .hbm, ⟨39, _⟩ => ⟨S_, .i32⟩
  | .hbm, ⟨40, _⟩ => ⟨S32x2048, .i32⟩
  | .hbm, ⟨41, _⟩ => ⟨S32x2048, .i1⟩
  | .hbm, ⟨42, _⟩ => ⟨S32x2048, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S32x2048, .i32⟩
  | .hbm, ⟨47, _⟩ => ⟨S32x2048, .i32⟩
  | .hbm, ⟨48, _⟩ => ⟨S_, .i32⟩
  | .hbm, ⟨49, _⟩ => ⟨S32x2048, .i32⟩
  | .hbm, ⟨50, _⟩ => ⟨S32x2048, .i32⟩
  | .hbm, ⟨51, _⟩ => ⟨S_, .i32⟩
  | .hbm, ⟨52, _⟩ => ⟨S32x2048, .i32⟩
  | .hbm, ⟨53, _⟩ => ⟨S32x2048, .i1⟩
  | .hbm, ⟨54, _⟩ => ⟨S_, .i32⟩
  | .hbm, ⟨55, _⟩ => ⟨S32x2048, .i32⟩
  | .hbm, ⟨56, _⟩ => ⟨S32x2048, .i32⟩
  | .hbm, ⟨57, _⟩ => ⟨S32x2048, .i32⟩
  | .hbm, ⟨58, _⟩ => ⟨S32x2048x1, .i32⟩
  | .hbm, ⟨59, _⟩ => ⟨S1x12x32x2048x64, .f32⟩
  | .hbm, ⟨60, _⟩ => ⟨S_, .i32⟩
  | .hbm, ⟨61, _⟩ => ⟨S32x2048, .i32⟩
  | .hbm, ⟨62, _⟩ => ⟨S32x2048, .i1⟩
  | .hbm, ⟨63, _⟩ => ⟨S_, .i32⟩
  | .hbm, ⟨64, _⟩ => ⟨S32x2048, .i32⟩
  | .hbm, ⟨65, _⟩ => ⟨S32x2048, .i32⟩
  | .hbm, ⟨66, _⟩ => ⟨S32x2048, .i32⟩
  | .hbm, ⟨67, _⟩ => ⟨S32x2048x1, .i32⟩
  | .hbm, ⟨68, _⟩ => ⟨S1x12x32x2048x64, .f32⟩
  | .hbm, ⟨69, _⟩ => ⟨S1x12x2048x32, .f32⟩
  | .hbm, ⟨70, _⟩ => ⟨S1x12x32x2048, .f32⟩
  | .hbm, ⟨71, _⟩ => ⟨S_, .f32⟩
  | .hbm, ⟨72, _⟩ => ⟨S1x12x32x2048, .f32⟩
  | .hbm, ⟨73, _⟩ => ⟨S1x12x32x2048, .f32⟩
  | .hbm, ⟨74, _⟩ => ⟨S1x1x32x2048, .i1⟩
  | .hbm, ⟨75, _⟩ => ⟨S_, .f32⟩
  | .hbm, ⟨76, _⟩ => ⟨S_, .f32⟩
  | .hbm, ⟨77, _⟩ => ⟨S1x12x32x2048, .i1⟩
  | .hbm, ⟨78, _⟩ => ⟨S1x12x32x2048, .f32⟩
  | .hbm, ⟨79, _⟩ => ⟨S1x12x32x2048, .f32⟩
  | .hbm, ⟨80, _⟩ => ⟨S_, .f32⟩
  | .hbm, ⟨81, _⟩ => ⟨S1x12x32, .f32⟩
  | .hbm, ⟨82, _⟩ => ⟨S_, .f32⟩
  | .hbm, ⟨83, _⟩ => ⟨S1x12x32, .f32⟩
  | .hbm, ⟨84, _⟩ => ⟨S1x12x32, .f32⟩
  | .hbm, ⟨85, _⟩ => ⟨S1x12x32x1, .f32⟩
  | .hbm, ⟨86, _⟩ => ⟨S1x12x32x2048, .f32⟩
  | .hbm, ⟨87, _⟩ => ⟨S1x12x32x2048, .f32⟩
  | .hbm, ⟨88, _⟩ => ⟨S1x12x32x2048, .f32⟩
  | .hbm, ⟨89, _⟩ => ⟨S_, .f32⟩
  | .hbm, ⟨90, _⟩ => ⟨S1x12x32, .f32⟩
  | .hbm, ⟨91, _⟩ => ⟨S1x12x32x1, .f32⟩
  | .hbm, ⟨92, _⟩ => ⟨S1x12x32x2048, .f32⟩
  | .hbm, ⟨93, _⟩ => ⟨S1x12x32x2048, .f32⟩
  | .hbm, ⟨94, _⟩ => ⟨S1x12x32x2048x1, .f32⟩
  | .hbm, ⟨95, _⟩ => ⟨S1x12x32x2048x64, .f32⟩
  | .hbm, ⟨96, _⟩ => ⟨S1x12x32x2048x64, .f32⟩
  | .hbm, ⟨97, _⟩ => ⟨S_, .f32⟩
  | .hbm, ⟨98, _⟩ => ⟨S1x12x2048x64, .f32⟩
  | .hbm, ⟨99, _⟩ => ⟨S1x2048x12x64, .f32⟩
  | .hbm, ⟨100, _⟩ => ⟨S1x2048x768, .f32⟩
  | .hbm, ⟨101, _⟩ => ⟨S768x768, .f32⟩
  | .hbm, ⟨102, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_0 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_c_5 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Proof.KernelFrame.lean ====
/- The frame of the kernel over machine words: the body runs from any contents of the scratch buffers at every grid
   point, and the argument arrays end as they began. -/
module

public import proofs.«01_k».proof.Defs
public import proofs.«01_k».proof.Proof.Gen.Kernel.Skeleton
public import proofs.«01_k».proof.Proof.Gen.Kernel.Frame

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers, each whole at some contents. -/
abbrev scratch (c : Dev nD) : sProp 𝕄 :=
  iprop((∃ f, (Memref.whole cc0_scratch0).view.loc (c : Thread nD τ) ↦{fullShare} f)
    ∗ (∃ f, (Memref.whole cc0_scratch1).view.loc (c : Thread nD τ) ↦{fullShare} f)
    ∗ (∃ f, (Memref.whole cc0_scratch2).view.loc (c : Thread nD τ) ↦{fullShare} f)
    ∗ (∃ f, (Memref.whole cc0_scratch3).view.loc (c : Thread nD τ) ↦{fullShare} f))

set_option maxHeartbeats 2000000 in
/-- The body at any grid point: the inputs are left as found, the scratch buffers and the result's staging buffer at
    some contents. -/
theorem body_run (c : Dev nD) (i : grid0.Coords)
    (arg2 : Memref sig .tc .vmem S512x768 .f32) (harg2 : arg2.IsWhole) (arg3 : Memref sig .tc .vmem S512x768 .f32) (harg3 : arg3.IsWhole)
    (arg4 : Memref sig .tc .vmem S512x768 .f32) (harg4 : arg4.IsWhole) (arg5 : Memref sig .tc .vmem S768x768 .f32) (harg5 : arg5.IsWhole)
    (arg6 : Memref sig .tc .vmem S768x768 .f32) (harg6 : arg6.IsWhole) (arg7 : Memref sig .tc .vmem S768x768 .f32) (harg7 : arg7.IsWhole)
    (arg8 : Memref sig .tc .vmem S768x768 .f32) (harg8 : arg8.IsWhole) (arg9 : Memref sig .tc .vmem S512x768 .f32) (harg9 : arg9.IsWhole)
    (x2 x3 x4 : Vec F S512x768 .f32) (x5 x6 x7 x8 : Vec F S768x768 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ (∃ d, owns (c : Thread nD τ) arg9 fullShare d) ∗ scratch c
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare x8 ∗ (∃ d, owns (c : Thread nD τ) arg9 fullShare d) ∗ scratch c) -∗ K ⟨⟩))
      ⊢ wp frame (wpE (defs₀ (F := F)) Variants.none c none) Set.univ
          (cc0__fused_body i arg2 harg2 arg3 harg3 arg4 harg4 arg5 harg5 arg6 harg6 arg7 harg7 arg8 harg8 arg9 harg9
            (Memref.whole cc0_scratch0) (Memref.isWhole_whole _) (Memref.whole cc0_scratch1) (Memref.isWhole_whole _)
            (Memref.whole cc0_scratch2) (Memref.isWhole_whole _) (Memref.whole cc0_scratch3) (Memref.isWhole_whole _)) K := by
  simp only [cc0__fused_body_eq_skeleton]; unfold cc0__fused_body_skel
  unfold owns scratch
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨⟨%g0, S0⟩, ⟨%g1, S1⟩, ⟨%g2, S2⟩, ⟨%g3, S3⟩⟩, Hk⟩
  have hx : k0_cond1 i = 1#1 ∧ ¬ k0_cond3 i = 1#1 ∨ ¬ k0_cond1 i = 1#1 ∧ k0_cond3 i = 1#1 := by
    revert i; decide
  by_cases hj : Scalar.cmpi .ne (Scalar.extui (Scalar.cmpi .eq (BitVec.ofNat 32 (i 1).val) 0#32) : BitVec 32) 0#32 = 1#1
  all_goals rcases hx with ⟨h1, h3⟩ | ⟨h1, h3⟩
  all_goals
    sl_exec_parts (disch := first | exact h1 | exact h3 | exact hj)
    sl_step
    iapply Hk
    isplitl [H2]; · iexists _; isplitr; swap; · iexact H2
                    ipureintro; exact e2
    isplitl [H3]; · iexists _; isplitr; swap; · iexact H3
                    ipureintro; exact e3
    isplitl [H4]; · iexists _; isplitr; swap; · iexact H4
                    ipureintro; exact e4
    isplitl [H5]; · iexists _; isplitr; swap; · iexact H5
                    ipureintro; exact e5
    isplitl [H6]; · iexists _; isplitr; swap; · iexact H6
                    ipureintro; exact e6
    isplitl [H7]; · iexists _; isplitr; swap; · iexact H7
                    ipureintro; exact e7
    isplitl [H8]; · iexists _; isplitr; swap; · iexact H8
                    ipureintro; exact e8
    isplitl [H9]; · iexists _, _; isplitr; swap; · iexact H9
                    ipureintro; rfl
    isplitl [S0]; · iexists _; iexact S0
    isplitl [S1]; · iexists _; iexact S1
    isplitl [S2]; · iexists _; iexact S2
    iexists _; iexact S3

/-! ## The proof data and the body obligation -/

/-- Only the result's window is left unnamed. -/
abbrev unnamed : Fin 8 → Bool := fun w => w == 7

/-- The proof data: the arrays as the region finds them, each input's buffer at its block; of the result's buffer
    nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

/-- The arrays as the region finds them. -/
theorem A_eq (c : Dev nD) (w : Fin cfg0.W) : (dats m 0 c).A w = V m c (Pipeline.arrRef spec0 w) := by
  dsimp only [dats]

/-! Each input's buffer holds its block before the body and after it. -/

/-- What each input window holds after a point: its block, as before. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
/-- What each input window holds before a point: its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d))

/-- What the body leaves at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare d))

/-- The body at point `t` takes what it finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6,
    after_0, after_1, after_2, after_3, after_4, after_5, after_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨HS, Hg⟩, HW, ⟨%d0, H0⟩, ⟨%d1, H1⟩, ⟨%d2, H2⟩, ⟨%d3, H3⟩, ⟨%d4, H4⟩, ⟨%d5, H5⟩, ⟨%d6, H6⟩, H7⟩
  iapply (body_run c (grid0.coords t) _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]; · iexact HS
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The kernel's row of the program's definitions. -/
theorem defs₀_row (t : Fin cfg0.N) :
    defs₀ (F := F) .tc cfg0.body (cfg0.bodyArgs t (cfg0.slots t)) = bodyAt0 t := by
  unfold defs₀; rw [Defs.onTc_tc]

/-- The body obligation at every grid point. -/
theorem body_obligation (c : Dev nD) :
    BodyObligationLoose (dats (F := F) m 0 c) (defs₀ (F := F)) Variants.none () Set.univ unnamed := fun t => by
  rw [bigSep_W0, bigSep_W0, defs₀_row]
  exact triple_restated (sound_body m c t) rfl .rfl fun _ => .rfl

/-! ## The run and the frame -/

/-- The host line after the region writes the result only. -/
theorem sfx_result : ∀ ops ∈ ([hostOps1] : List (List (HloOp τ sig (Elt F)))), ∀ op ∈ ops, ∀ b : Ref sig .tc,
    Proc.devRef .tc b ∈ op.writes → b ∈ ({main_v0} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  rw [Finset.mem_singleton]
  by_contra hne
  exact StableHlo.devRef_ne_of_ne hne hb

/-- The kernel runs to its end, every argument array as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frame_around_T_forget (Q' := _) cfgs (dats m) 0 launch0 defs₀ Variants.none unnamed {main_v0} m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := sfx_result)
    (hmain := hmain m Variants.none) (hA := A_eq m) (hΦ := fun _ _ => rfl)
    (hQ' := fun r h => ⟨fun c =>
      have k : ∀ b : Ref sig .tc, b.isScoped = false → (∀ w, (spec0 w).arr.view.ref ≠ b) → b ≠ main_v0 →
          r.2.mem ((c.tc : Thread nD τ).loc b) = V m c b := fun b h0 h1 h2 =>
        (h.1 c).2 b (Finset.mem_sdiff.mpr ⟨Pipeline.mem_restRefs_of b h0 h1, by rwa [Finset.mem_singleton]⟩)
      ⟨(k main_arg0 (by decide) (by decide) (by decide)).trans (V_main_arg0 m c),
        (k main_arg1 (by decide) (by decide) (by decide)).trans (V_main_arg1 m c),
        (k main_arg2 (by decide) (by decide) (by decide)).trans (V_main_arg2 m c),
        (k main_arg3 (by decide) (by decide) (by decide)).trans (V_main_arg3 m c),
        (k main_arg4 (by decide) (by decide) (by decide)).trans (V_main_arg4 m c),
        (k main_arg5 (by decide) (by decide) (by decide)).trans (V_main_arg5 m c),
        (k main_arg6 (by decide) (by decide) (by decide)).trans (V_main_arg6 m c)⟩, h.2⟩)

end Cert.Kernel.Hand

end
-- ==== Proof.Payloads.lean ====
/- The vectors the kernel stores, each family of them as one definition: the eight groups of scores, and the thirty-two
   terms of the weighted sum. -/
module

public import proofs.«01_k».proof.Defs
public import proofs.«01_k».proof.Proof.Gen.KernelIdeal.Skeleton

@[expose] public section

set_option maxRecDepth 16384

noncomputable section

namespace Cert.KernelIdeal.Hand

open Cert.KernelIdeal.Gen
open Idealize.ShloMosaic

variable {F : FTy → Type} [FloatOps F]

/-! ## The scores -/

/-- A block of 512 rows fits the 544-row window at every row offset up to 32. -/
theorem slices_rows {o : ℕ} (h : o ≤ 32) : S544x768.Slices ![o, 0] S512x768 :=
  ⟨rfl, Fin.forall_fin_two.mpr ⟨by show o + 512 ≤ 544; omega, by show 0 + 768 ≤ 768; omega⟩⟩

/-- The products of the queries with the keys `o - 1` rows into the window, the lanes folded from 768 to 192. -/
def folded (o : ℕ) (h : o ≤ 32) (qb : FVec F S512x768 .f32) (kw : Vec F S544x768 .f32) : FVec F S512x192 .f32 :=
  let p : FVec F S512x768 .f32 := mulf qb (extractStridedSlice S512x768 ![o, 0] kw (slices_rows h))
  let s : FVec F S512x384 .f32 := addf (extractStridedSlice S512x384 ![0, 0] p slices_S512x768_o0_0_S512x384)
    (extractStridedSlice S512x384 ![0, 384] p slices_S512x768_o0_384_S512x384)
  addf (extractStridedSlice S512x192 ![0, 0] s slices_S512x384_o0_0_S512x192)
    (extractStridedSlice S512x192 ![0, 192] s slices_S512x384_o0_192_S512x192)

/-- The matrix that sums, for each of four positions and twelve heads, the lanes of that position and head. -/
def headSum : FVec F S768x48 .f32 :=
  k0_pay11 (F := F) (iota .tc S768x48 32 [0] iota_S768x48_d0_w32) (iota .tc S768x48 32 [1] iota_S768x48_d1_w32)
    k0_pay8 192#32 k0_pay9 k0_pay10

/-- Which of a group's four positions each of its 48 columns belongs to. -/
def colPos : IVec S512x48 32 := k0_pay12 (iota .tc S512x48 32 [1] iota_S512x48_d1_w32) 12#32

/-- The scores of the four positions from `d` on, for the rows of one block: minus infinity where the position lies
    before the sequence. -/
def scoreGroup (jb : BitVec 32) (d : ℕ) (h : d + 4 ≤ 32) (qb : FVec F S512x768 .f32) (kw : Vec F S544x768 .f32) :
    FVec F S512x48 .f32 :=
  let s : FVec F S512x48 .f32 := matmul dot_S512x768_S768x48_S512x48_1_0_0_1_n_n none
    (concatenate S512x768 1 [⟨S512x192, folded (d + 1) (by omega) qb kw⟩, ⟨S512x192, folded (d + 2) (by omega) qb kw⟩,
      ⟨S512x192, folded (d + 3) (by omega) qb kw⟩, ⟨S512x192, folded (d + 4) (by omega) qb kw⟩]
      concatenates_S512x192_S512x192_S512x192_S512x192_S512x768_d1) headSum (constant S512x48 .f32 0x00000000#32)
  let r : IVec S512x48 32 := addi (broadcast S512x48 (Scalar.muli jb 512#32)) (iota .tc S512x48 32 [0] iota_S512x48_d0_w32)
  let p : IVec S512x48 32 := subi (addi r (addi (broadcast S512x48 (BitVec.ofNat 32 d)) colPos)) (broadcast S512x48 31#32)
  shapeCast S512x48 (select (cmpi .sge p (broadcast S512x48 0#32)) s (broadcast S512x48 (Scalar.ofBits .f32 0xFF800000#32)))
    shapeCasts_S512x48_S512x48

section Groups

variable (jb : BitVec 32) (i : grid0.Coords) (qb : FVec F S512x768 .f32) (kw : Vec F S544x768 .f32)

/-- Each group of four places is the same sum, mask and store of its part. -/
theorem group_0 : k0_pay18 jb headSum (iota .tc S512x48 32 [0] iota_S512x48_d0_w32) colPos (k0_pay13 qb kw) (k0_pay14 qb kw)
    (k0_pay15 qb kw) (k0_pay16 qb kw) (k0_pay17 qb kw) = scoreGroup jb 0 (by decide) qb kw := rfl
theorem group_1 : k0_pay24 jb headSum (iota .tc S512x48 32 [0] iota_S512x48_d0_w32) colPos (k0_pay19 qb kw) (k0_pay20 qb kw)
    (k0_pay21 qb kw) (k0_pay22 qb kw) (k0_pay23 qb kw) = scoreGroup jb 4 (by decide) qb kw := rfl
theorem group_2 : k0_pay30 jb headSum (iota .tc S512x48 32 [0] iota_S512x48_d0_w32) colPos (k0_pay25 qb kw) (k0_pay26 qb kw)
    (k0_pay27 qb kw) (k0_pay28 qb kw) (k0_pay29 qb kw) = scoreGroup jb 8 (by decide) qb kw := rfl
theorem group_3 : k0_pay36 jb headSum (iota .tc S512x48 32 [0] iota_S512x48_d0_w32) colPos (k0_pay31 qb kw) (k0_pay32 qb kw)
    (k0_pay33 qb kw) (k0_pay34 qb kw) (k0_pay35 qb kw) = scoreGroup jb 12 (by decide) qb kw := rfl
theorem group_4 : k0_pay42 jb headSum (iota .tc S512x48 32 [0] iota_S512x48_d0_w32) colPos (k0_pay37 qb kw) (k0_pay38 qb kw)
    (k0_pay39 qb kw) (k0_pay40 qb kw) (k0_pay41 qb kw) = scoreGroup jb 16 (by decide) qb kw := rfl
theorem group_5 : k0_pay48 jb headSum (iota .tc S512x48 32 [0] iota_S512x48_d0_w32) colPos (k0_pay43 qb kw) (k0_pay44 qb kw)
    (k0_pay45 qb kw) (k0_pay46 qb kw) (k0_pay47 qb kw) = scoreGroup jb 20 (by decide) qb kw := rfl
theorem group_6 : k0_pay54 jb headSum (iota .tc S512x48 32 [0] iota_S512x48_d0_w32) colPos (k0_pay49 qb kw) (k0_pay50 qb kw)
    (k0_pay51 qb kw) (k0_pay52 qb kw) (k0_pay53 qb kw) = scoreGroup jb 24 (by decide) qb kw := rfl
theorem group_7 : k0_pay1 i headSum (iota .tc S512x48 32 [0] iota_S512x48_d0_w32) colPos (k0_pay55 qb kw) (k0_pay56 qb kw)
    (k0_pay57 qb kw) (k0_pay58 qb kw) (k0_pay59 qb kw) = scoreGroup (BitVec.ofNat 32 (i 1).val) 28 (by decide) qb kw := rfl

end Groups

/-! ## The weighted sum -/

/-- The twelve columns of one position lie inside the 384 columns of the weights. -/
theorem slices_cols {d : ℕ} (h : d < 32) : S512x384.Slices ![0, 12 * d] S512x12 :=
  ⟨rfl, Fin.forall_fin_two.mpr ⟨by show 0 + 512 ≤ 512; omega, by show 12 * d + 12 ≤ 384; omega⟩⟩

/-- Twelve columns repeated to 384. -/
def tiled (x : FVec F S512x12 .f32) : FVec F S512x384 .f32 :=
  let x2 : FVec F S512x24 .f32 := concatenate S512x24 1 [⟨S512x12, x⟩, ⟨S512x12, x⟩] concatenates_S512x12_S512x12_S512x24_d1
  let x4 : FVec F S512x48 .f32 := concatenate S512x48 1 [⟨S512x24, x2⟩, ⟨S512x24, x2⟩] concatenates_S512x24_S512x24_S512x48_d1
  let x8 : FVec F S512x96 .f32 := concatenate S512x96 1 [⟨S512x48, x4⟩, ⟨S512x48, x4⟩] concatenates_S512x48_S512x48_S512x96_d1
  let x16 : FVec F S512x192 .f32 := concatenate S512x192 1 [⟨S512x96, x8⟩, ⟨S512x96, x8⟩] concatenates_S512x96_S512x96_S512x192_d1
  concatenate S512x384 1 [⟨S512x192, x16⟩, ⟨S512x192, x16⟩] concatenates_S512x192_S512x192_S512x384_d1

/-- The sum over the first `n` positions of the weights times the values, over the 384 lanes from `o` on. -/
def wsum (o : ℕ) (ho : S512x768.Slices ![0, o] S512x384) (w : FVec F S512x384 .f32) (v : Vec F S544x768 .f32) :
    (n : ℕ) → n ≤ 32 → FVec F S512x384 .f32
  | 0, _ => broadcast S512x384 (Scalar.ofBits .f32 0x00000000#32)
  | n + 1, h => addf (wsum o ho w v n (Nat.le_of_succ_le h))
      (mulf (tiled (extractStridedSlice S512x12 ![0, 12 * n] w (slices_cols h)))
        (extractStridedSlice S512x384 ![0, o] (extractStridedSlice S512x768 ![n + 1, 0] v (slices_rows h)) ho))

/-- One block of the result: both halves of the weighted sum, times the output weights. -/
def outBlock (w : FVec F S512x384 .f32) (v : Vec F S544x768 .f32) (wo : Vec F S768x768 .f32) : FVec F S512x768 .f32 :=
  matmul dot_S512x768_S768x768_S512x768_1_0_0_1_n_n none
    (concatenate S512x768 1
      [⟨S512x384, wsum 0 slices_S512x768_o0_0_S512x384 w v 32 le_rfl⟩,
        ⟨S512x384, wsum 384 slices_S512x768_o0_384_S512x384 w v 32 le_rfl⟩]
      concatenates_S512x384_S512x384_S512x768_d1)
    (shapeCast S768x768 wo shapeCasts_S768x768_S768x768) (constant S512x768 .f32 0x00000000#32)

/-! The sums as the body accumulates them, a few positions at a time: over the lower 384 lanes and over the upper. -/

section Sums

variable (m z : Vec F S1x384 .f32) (s : Vec F S512x384 .f32) (w : FVec F S512x384 .f32) (v : Vec F S544x768 .f32)

/-- The sums over the lower lanes. -/
abbrev lower (w : FVec F S512x384 .f32) (v : Vec F S544x768 .f32) (n : ℕ) (hn : n ≤ 32) : FVec F S512x384 .f32 :=
  wsum 0 slices_S512x768_o0_0_S512x384 w v n hn
/-- The sums over the upper lanes. -/
abbrev upper (w : FVec F S512x384 .f32) (v : Vec F S544x768 .f32) (n : ℕ) (hn : n ≤ 32) : FVec F S512x384 .f32 :=
  wsum 384 slices_S512x768_o0_384_S512x384 w v n hn

/-- After so many positions the lower and the upper accumulators hold so many terms of the sum. -/
theorem lo_2 : k0_pay68 m z s v = lower (k0_pay63 m z s) v 2 (by decide) := rfl
theorem hi_2 : k0_pay69 m z s v = upper (k0_pay63 m z s) v 2 (by decide) := rfl
theorem lo_7 : k0_pay82 (k0_pay63 m z s) v (lower (k0_pay63 m z s) v 2 (by decide)) (k0_pay70 m z s)
    = lower (k0_pay63 m z s) v 7 (by decide) := rfl
theorem hi_6 : k0_pay79 (k0_pay63 m z s) v (upper (k0_pay63 m z s) v 2 (by decide)) (k0_pay70 m z s)
    = upper (k0_pay63 m z s) v 6 (by decide) := rfl
theorem lo_11 : k0_pay92 w v (lower w v 7 (by decide)) = lower w v 11 (by decide) := rfl
theorem hi_11 : k0_pay93 w v (upper w v 6 (by decide)) (k0_pay80 w) (k0_pay83 v) = upper w v 11 (by decide) := rfl
theorem lo_16 : k0_pay104 w v (lower w v 11 (by decide)) (k0_pay94 w) = lower w v 16 (by decide) := rfl
theorem hi_16 : k0_pay105 w v (upper w v 11 (by decide)) (k0_pay94 w) = upper w v 16 (by decide) := rfl
theorem lo_20 : k0_pay115 w v (lower w v 16 (by decide)) (k0_pay106 w) = lower w v 20 (by decide) := rfl
theorem hi_20 : k0_pay116 w v (upper w v 16 (by decide)) (k0_pay106 w) = upper w v 20 (by decide) := rfl
theorem lo_25 : k0_pay128 w v (lower w v 20 (by decide)) (k0_pay119 w v) = lower w v 25 (by decide) := rfl
theorem hi_25 : k0_pay129 w v (upper w v 20 (by decide)) (k0_pay117 w) (k0_pay118 v) = upper w v 25 (by decide) := rfl
theorem hi_29 : k0_pay139 w v (upper w v 25 (by decide)) (k0_pay130 w) = upper w v 29 (by decide) := rfl
theorem lo_30 : k0_pay142 w v (lower w v 25 (by decide)) (k0_pay130 w) = lower w v 30 (by decide) := rfl
/-- After all positions the product with the output weights is the block. -/
theorem out_32 (wo : Vec F S768x768 .f32) :
    k0_pay2 w v (upper w v 29 (by decide)) (lower w v 30 (by decide)) (k0_pay143 w v) wo = outBlock w v wo := rfl

/-- The block of the result as the body's second sweep accumulates it. -/
abbrev outRun (wo : Vec F S768x768 .f32) : FVec F S512x768 .f32 :=
  k0_pay2 (k0_pay63 m z s) v
    (k0_pay139 (k0_pay63 m z s) v
      (k0_pay129 (k0_pay63 m z s) v
        (k0_pay116 (k0_pay63 m z s) v
          (k0_pay105 (k0_pay63 m z s) v
            (k0_pay93 (k0_pay63 m z s) v (k0_pay79 (k0_pay63 m z s) v (k0_pay69 m z s v) (k0_pay70 m z s)) (k0_pay80 (k0_pay63 m z s)) (k0_pay83 v))
            (k0_pay94 (k0_pay63 m z s)))
          (k0_pay106 (k0_pay63 m z s)))
        (k0_pay117 (k0_pay63 m z s)) (k0_pay118 v))
      (k0_pay130 (k0_pay63 m z s)))
    (k0_pay142 (k0_pay63 m z s) v
      (k0_pay128 (k0_pay63 m z s) v
        (k0_pay115 (k0_pay63 m z s) v
          (k0_pay104 (k0_pay63 m z s) v
            (k0_pay92 (k0_pay63 m z s) v (k0_pay82 (k0_pay63 m z s) v (k0_pay68 m z s v) (k0_pay70 m z s)))
            (k0_pay94 (k0_pay63 m z s)))
          (k0_pay106 (k0_pay63 m z s)))
        (k0_pay119 (k0_pay63 m z s) v))
      (k0_pay130 (k0_pay63 m z s)))
    (k0_pay143 (k0_pay63 m z s) v) wo

/-- The accumulation is the whole sum. -/
theorem outRun_eq (wo : Vec F S768x768 .f32) : outRun m z s v wo = outBlock (k0_pay63 m z s) v wo := by
  unfold outRun
  rw [lo_2, hi_2, lo_7, hi_6, lo_11, hi_11, lo_16, hi_16, lo_20, hi_20, lo_25, hi_25, hi_29, lo_30, out_32]

end Sums

end Cert.KernelIdeal.Hand

end
-- ==== Proof.Step.lean ====
/- What one grid point leaves in the scratch buffers and in the result's staging buffer, as vectors. -/
module

public import proofs.«01_k».proof.Proof.Payloads
public import Idealize.ShloMosaic.Lib.Pointwise
public import Idealize.ShloMosaic.Lib.WritesUnit
public import Idealize.ShloMosaic.Lib.Pipeline.FrameBody
public import Idealize.ShloMosaic.Lib.Pipeline.Value

@[expose] public section

set_option maxRecDepth 16384

noncomputable section

namespace Cert.KernelIdeal.Hand

open Cert.KernelIdeal.Gen
open Idealize.ShloMosaic Idealize.ShloMosaic.Pointwise

variable {F : FTy → Type} [FloatOps F]

/-- The block of rows a grid point works on. -/
abbrev blk (i : grid0.Coords) : ℕ := (i 1).val

/-- There are four blocks. -/
theorem blk_lt (i : grid0.Coords) : blk i < 4 := (i 1).isLt

/-! ## The vectors -/

/-- The first block clears the 32 rows that stand for the positions before the sequence. -/
def cleared (i : grid0.Coords) (v : Vec F S2080x768 .f32) : Vec F S2080x768 .f32 := fun y =>
  if blk i = 0 ∧ (y 0).val < 32 then Scalar.ofBits .f32 0x00000000#32 else v y

/-- A block's 512 rows put in place, 32 rows down. -/
def putRows (i : grid0.Coords) (x : Vec F S512x768 .f32) (v : Vec F S2080x768 .f32) : Vec F S2080x768 .f32 := fun y =>
  if h : 512 * blk i + 32 ≤ (y 0).val ∧ (y 0).val < 512 * blk i + 32 + 512 then
    x (ix2 (n0 := 512) (n1 := 768) ⟨(y 0).val - (512 * blk i + 32), by omega⟩ (y 1)) else v y

/-- The keys (or values) buffer after a point of the first sweep. -/
def projNext (i : grid0.Coords) (x : Vec F S512x768 .f32) (wt : Vec F S768x768 .f32) (v : Vec F S2080x768 .f32) :
    Vec F S2080x768 .f32 := putRows i (k0_pay6 x wt) (cleared i v)

/-- The 544 rows a block's 512 queries look back over. -/
def window (b : Fin 4) (v : Vec F S2080x768 .f32) : Vec F S544x768 .f32 := fun y =>
  v (ix2 (n0 := 2080) (n1 := 768) ⟨512 * b.val + (y 0).val, by have := b.isLt; have := (y 0).isLt; have h : (y 0).val < 544 := this; omega⟩ (y 1))

/-- The scores of one block at a row and a column. -/
def blockScores (b : Fin 4) (qb : FVec F S512x768 .f32) (kw : Vec F S544x768 .f32) (r : Fin 512) (k : Fin 384) : F .f32 :=
  scoreGroup (BitVec.ofNat 32 b.val) (4 * (k.val / 48)) (by have := k.isLt; omega) qb kw
    (ix2 (n0 := 512) (n1 := 48) r ⟨k.val % 48, Nat.mod_lt _ (by decide)⟩)

/-- The scores buffer after a point of the first sweep. -/
def scoresNext (i : grid0.Coords) (qb : FVec F S512x768 .f32) (kw : Vec F S544x768 .f32) (v : Vec F S2048x384 .f32) :
    Vec F S2048x384 .f32 := fun y =>
  if h : 512 * blk i ≤ (y 0).val ∧ (y 0).val < 512 * blk i + 512 then
    blockScores (i 1) qb kw ⟨(y 0).val - 512 * blk i, by omega⟩ (y 1) else v y

/-- The statistics buffer after a point of the second sweep: the first block leaves each column's maximum in row 0 and
    its sum of exponentials in row 1. -/
def statsNext (i : grid0.Coords) (s : Vec F S2048x384 .f32) (v : Vec F S8x384 .f32) : Vec F S8x384 .f32 := fun y =>
  if blk i = 0 then
    if (y 0).val = 0 then k0_pay61 s (ix2 (n0 := 1) (n1 := 384) 0 (y 1))
    else if (y 0).val = 1 then k0_pay62 s (ix2 (n0 := 1) (n1 := 384) 0 (y 1)) else v y
  else v y

/-- One row of the statistics. -/
def statRow (r : Fin 8) (v : Vec F S8x384 .f32) : Vec F S1x384 .f32 := fun y => v (ix2 (n0 := 8) (n1 := 384) r (y 1))

/-- A block's 512 rows of scores. -/
def scoreRows (b : Fin 4) (v : Vec F S2048x384 .f32) : Vec F S512x384 .f32 := fun y =>
  v (ix2 (n0 := 2048) (n1 := 384) ⟨512 * b.val + (y 0).val, by have := b.isLt; have := (y 0).isLt; have h : (y 0).val < 512 := this; omega⟩ (y 1))

/-! ## Reading them off the stores -/

/-- The offsets of the body's loads and stores, by the point's block. -/
theorem off1_eq (i : grid0.Coords) : k0_off1 i = ![512 * blk i + 32, 0] := by revert i; decide
theorem off2_eq (i : grid0.Coords) : k0_off2 i = ![512 * blk i, 0] := by revert i; decide
theorem off3_eq (i : grid0.Coords) : k0_off3 i = ![512 * blk i, 48 * 0] := by revert i; decide
theorem off4_eq (i : grid0.Coords) : k0_off4 i = ![512 * blk i, 48 * 1] := by revert i; decide
theorem off5_eq (i : grid0.Coords) : k0_off5 i = ![512 * blk i, 48 * 2] := by revert i; decide
theorem off6_eq (i : grid0.Coords) : k0_off6 i = ![512 * blk i, 48 * 3] := by revert i; decide
theorem off7_eq (i : grid0.Coords) : k0_off7 i = ![512 * blk i, 48 * 4] := by revert i; decide
theorem off8_eq (i : grid0.Coords) : k0_off8 i = ![512 * blk i, 48 * 5] := by revert i; decide
theorem off9_eq (i : grid0.Coords) : k0_off9 i = ![512 * blk i, 48 * 6] := by revert i; decide
theorem off10_eq (i : grid0.Coords) : k0_off10 i = ![512 * blk i, 48 * 7] := by revert i; decide
theorem off11_eq (i : grid0.Coords) : k0_off11 i = ![512 * blk i, 0] := by revert i; decide
theorem off12_eq (i : grid0.Coords) : k0_off12 i = ![512 * blk i, 0] := by revert i; decide

section Reads

variable {κ : Kind} {sp : Space}

/-- A block's rows stored over any contents. -/
theorem read_putRows (v : View sig κ sp S2080x768 .f32) (f : v.ty.Contents (Elt F)) (i : grid0.Coords)
    (inb : ∀ a, k0_off1 i a + S512x768.size a ≤ S2080x768.size a) (x : Vec F S512x768 .f32)
    (L : List (View.Piece (Elt F) S2080x768 .f32)) :
    v.read (Elt F) (v.writes (Elt F) f ((⟨Rect.unit (k0_off1 i) S512x768.size inb, x⟩ : View.Piece (Elt F) S2080x768 .f32) :: L))
      = putRows i x (v.read (Elt F) (v.writes (Elt F) f L)) := by
  funext y
  unfold putRows
  by_cases h : 512 * blk i + 32 ≤ (y 0).val ∧ (y 0).val < 512 * blk i + 32 + 512
  · rw [dif_pos h]
    refine View.read_writes_cons_unit_of_mem v f inb x L y (ix2 (n0 := 512) (n1 := 768) ⟨(y 0).val - (512 * blk i + 32), by omega⟩ (y 1)) (off1_eq i) ?_
    refine Fin.forall_fin_two.mpr ⟨?_, ?_⟩
    · show (y 0).val = (512 * blk i + 32) + ((y 0).val - (512 * blk i + 32)); omega
    · show (y 1).val = 0 + (y 1).val; omega
  · rw [dif_neg h]
    refine View.read_writes_cons_unit_of_not_mem v f inb x L y (off1_eq i) 0 ?_
    show (y 0).val < 512 * blk i + 32 ∨ 512 * blk i + 32 + 512 ≤ (y 0).val
    omega

/-- The 32 rows cleared by the first block. -/
theorem read_cleared (v : View sig κ sp S2080x768 .f32) (f : v.ty.Contents (Elt F)) (i : grid0.Coords) (hi : blk i = 0)
    (inb : ∀ a, (![0, 0] : Fin 2 → ℕ) a + S32x768.size a ≤ S2080x768.size a) :
    v.read (Elt F) (v.writes (Elt F) f [(⟨Rect.unit ![0, 0] S32x768.size inb, k0_pay3 (F := F)⟩ : View.Piece (Elt F) S2080x768 .f32)])
      = cleared i (v.read (Elt F) f) := by
  funext y
  unfold cleared
  by_cases h : (y 0).val < 32
  · rw [if_pos ⟨hi, h⟩]
    refine (View.read_writes_cons_unit_of_mem v f inb (k0_pay3 (F := F)) [] y (ix2 (n0 := 32) (n1 := 768) ⟨(y 0).val, h⟩ (y 1)) rfl ?_).trans rfl
    refine Fin.forall_fin_two.mpr ⟨?_, ?_⟩
    · show (y 0).val = 0 + (y 0).val; omega
    · show (y 1).val = 0 + (y 1).val; omega
  · rw [if_neg (fun hh => h hh.2)]
    refine View.read_writes_cons_unit_of_not_mem v f inb (k0_pay3 (F := F)) [] y rfl 0 ?_
    show (y 0).val < 0 ∨ 0 + 32 ≤ (y 0).val
    omega

/-- Only the first block clears the padding. -/
theorem cleared_of_ne (i : grid0.Coords) (hi : blk i ≠ 0) (v : Vec F S2080x768 .f32) : cleared i v = v :=
  funext fun y => if_neg fun h => hi h.1

/-- One group of 48 columns of a block's rows stored over any contents. -/
theorem read_group (v : View sig κ sp S2048x384 .f32) (f : v.ty.Contents (Elt F)) (i : grid0.Coords) (g : ℕ) {off : Fin 2 → ℕ}
    (hoff : off = ![512 * blk i, 48 * g])
    (inb : ∀ a, off a + S512x48.size a ≤ S2048x384.size a) (x : Vec F S512x48 .f32)
    (L : List (View.Piece (Elt F) S2048x384 .f32)) (y : S2048x384.Idx) :
    v.read (Elt F) (v.writes (Elt F) f ((⟨Rect.unit off S512x48.size inb, x⟩ : View.Piece (Elt F) S2048x384 .f32) :: L)) y
      = if h : (512 * blk i ≤ (y 0).val ∧ (y 0).val < 512 * blk i + 512) ∧ (y 1).val / 48 = g then
          x (ix2 (n0 := 512) (n1 := 48) ⟨(y 0).val - 512 * blk i, by omega⟩ ⟨(y 1).val % 48, Nat.mod_lt _ (by decide)⟩)
        else v.read (Elt F) (v.writes (Elt F) f L) y := by
  have h1 : (y 1).val < 384 := (y 1).isLt
  by_cases h : (512 * blk i ≤ (y 0).val ∧ (y 0).val < 512 * blk i + 512) ∧ (y 1).val / 48 = g
  · rw [dif_pos h]
    refine View.read_writes_cons_unit_of_mem v f inb x L y
      (ix2 (n0 := 512) (n1 := 48) ⟨(y 0).val - 512 * blk i, by omega⟩ ⟨(y 1).val % 48, Nat.mod_lt _ (by decide)⟩) hoff ?_
    refine Fin.forall_fin_two.mpr ⟨?_, ?_⟩
    · show (y 0).val = 512 * blk i + ((y 0).val - 512 * blk i); omega
    · show (y 1).val = 48 * g + (y 1).val % 48; omega
  · rw [dif_neg h]
    by_cases hr : 512 * blk i ≤ (y 0).val ∧ (y 0).val < 512 * blk i + 512
    · refine View.read_writes_cons_unit_of_not_mem v f inb x L y hoff 1 ?_
      show (y 1).val < 48 * g ∨ 48 * g + 48 ≤ (y 1).val
      have : (y 1).val / 48 ≠ g := fun h' => h ⟨hr, h'⟩
      omega
    · refine View.read_writes_cons_unit_of_not_mem v f inb x L y hoff 0 ?_
      show (y 0).val < 512 * blk i ∨ 512 * blk i + 512 ≤ (y 0).val
      omega

/-- The eight groups stored one after the other: the block's rows of scores. -/
theorem read_scores (v : View sig κ sp S2048x384 .f32) (f : v.ty.Contents (Elt F)) (i : grid0.Coords)
    (h1 : k0_cond1 i = 1#1) (qb : FVec F S512x768 .f32) (kw : Vec F S544x768 .f32) :
    v.read (Elt F) (v.writes (Elt F) f
      [⟨Rect.unit (s := S2048x384) (k0_off10 i) S512x48.size (k0_off10_inb i h1), scoreGroup (BitVec.ofNat 32 (i 1).val) (4 * 7) (by decide) qb kw⟩,
       ⟨Rect.unit (s := S2048x384) (k0_off9 i) S512x48.size (k0_off9_inb i h1), scoreGroup (BitVec.ofNat 32 (i 1).val) (4 * 6) (by decide) qb kw⟩,
       ⟨Rect.unit (s := S2048x384) (k0_off8 i) S512x48.size (k0_off8_inb i h1), scoreGroup (BitVec.ofNat 32 (i 1).val) (4 * 5) (by decide) qb kw⟩,
       ⟨Rect.unit (s := S2048x384) (k0_off7 i) S512x48.size (k0_off7_inb i h1), scoreGroup (BitVec.ofNat 32 (i 1).val) (4 * 4) (by decide) qb kw⟩,
       ⟨Rect.unit (s := S2048x384) (k0_off6 i) S512x48.size (k0_off6_inb i h1), scoreGroup (BitVec.ofNat 32 (i 1).val) (4 * 3) (by decide) qb kw⟩,
       ⟨Rect.unit (s := S2048x384) (k0_off5 i) S512x48.size (k0_off5_inb i h1), scoreGroup (BitVec.ofNat 32 (i 1).val) (4 * 2) (by decide) qb kw⟩,
       ⟨Rect.unit (s := S2048x384) (k0_off4 i) S512x48.size (k0_off4_inb i h1), scoreGroup (BitVec.ofNat 32 (i 1).val) (4 * 1) (by decide) qb kw⟩,
       ⟨Rect.unit (s := S2048x384) (k0_off3 i) S512x48.size (k0_off3_inb i h1), scoreGroup (BitVec.ofNat 32 (i 1).val) (4 * 0) (by decide) qb kw⟩])
      = scoresNext i qb kw (v.read (Elt F) f) := by
  funext y
  have hy : (y 1).val < 384 := (y 1).isLt
  rw [read_group v f i 7 (off10_eq i), read_group v f i 6 (off9_eq i), read_group v f i 5 (off8_eq i),
    read_group v f i 4 (off7_eq i), read_group v f i 3 (off6_eq i), read_group v f i 2 (off5_eq i),
    read_group v f i 1 (off4_eq i), read_group v f i 0 (off3_eq i)]
  unfold scoresNext
  by_cases h : 512 * blk i ≤ (y 0).val ∧ (y 0).val < 512 * blk i + 512
  · rw [dif_pos h]
    have key : ∀ g (hg : 4 * g + 4 ≤ 32), (y 1).val / 48 = g → scoreGroup (BitVec.ofNat 32 (i 1).val) (4 * g) hg qb kw
        (ix2 (n0 := 512) (n1 := 48) ⟨(y 0).val - 512 * blk i, by omega⟩ ⟨(y 1).val % 48, Nat.mod_lt _ (by decide)⟩)
        = blockScores (i 1) qb kw ⟨(y 0).val - 512 * blk i, by omega⟩ (y 1) := by
      intro g hg e; subst e; rfl
    iterate 8
      split
      · rename_i hh
        exact key _ (by decide) hh.2
    exfalso
    omega
  · rw [dif_neg h]
    iterate 8 rw [dif_neg (fun hh => h hh.1)]
    rfl

/-- The first block's statistics, stored row by row. -/
theorem read_stats (v : View sig κ sp S8x384 .f32) (f : v.ty.Contents (Elt F)) (i : grid0.Coords) (hi : blk i = 0)
    (s : Vec F S2048x384 .f32) (inb0 : ∀ a, (![0, 0] : Fin 2 → ℕ) a + S1x384.size a ≤ S8x384.size a)
    (inb1 : ∀ a, (![1, 0] : Fin 2 → ℕ) a + S1x384.size a ≤ S8x384.size a) :
    v.read (Elt F) (v.writes (Elt F) f [(⟨Rect.unit ![1, 0] S1x384.size inb1, k0_pay62 s⟩ : View.Piece (Elt F) S8x384 .f32),
      ⟨Rect.unit ![0, 0] S1x384.size inb0, k0_pay61 s⟩]) = statsNext i s (v.read (Elt F) f) := by
  funext y
  unfold statsNext
  rw [if_pos hi]
  have hy1 : ∀ x : Fin 1, x.val = 0 := fun x => by omega
  by_cases h1 : (y 0).val = 1
  · rw [if_neg (by omega), if_pos h1]
    refine View.read_writes_cons_unit_of_mem v f inb1 (k0_pay62 s) _ y (ix2 (n0 := 1) (n1 := 384) 0 (y 1)) rfl ?_
    refine Fin.forall_fin_two.mpr ⟨?_, ?_⟩
    · show (y 0).val = 1 + 0; omega
    · show (y 1).val = 0 + (y 1).val; omega
  · rw [View.read_writes_cons_unit_of_not_mem v f inb1 (k0_pay62 s) _ y rfl 0
      (by show (y 0).val < 1 ∨ 1 + 1 ≤ (y 0).val; omega)]
    by_cases h0 : (y 0).val = 0
    · rw [if_pos h0]
      refine View.read_writes_cons_unit_of_mem v f inb0 (k0_pay61 s) [] y (ix2 (n0 := 1) (n1 := 384) 0 (y 1)) rfl ?_
      refine Fin.forall_fin_two.mpr ⟨?_, ?_⟩
      · show (y 0).val = 0 + 0; omega
      · show (y 1).val = 0 + (y 1).val; omega
    · rw [if_neg h0, if_neg h1]
      refine View.read_writes_cons_unit_of_not_mem v f inb0 (k0_pay61 s) [] y rfl 0 ?_
      show (y 0).val < 0 ∨ 0 + 1 ≤ (y 0).val
      omega

/-- Only the first block writes the statistics. -/
theorem statsNext_of_ne (i : grid0.Coords) (hi : blk i ≠ 0) (s : Vec F S2048x384 .f32) (v : Vec F S8x384 .f32) :
    statsNext i s v = v := funext fun y => if_neg hi

/-! The loads. -/

/-- A load of a block's window. -/
theorem ld_window (i : grid0.Coords) {off : Fin 2 → ℕ} (hoff : off = ![512 * blk i, 0])
    (inb : ∀ a, off a + S544x768.size a ≤ S2080x768.size a) (X : Vec F S2080x768 .f32) :
    View.ld (Val := Elt F) (e' := .f32) X (Rect.unit (s := S2080x768) off S544x768.size inb) = window (i 1) X := by
  subst hoff
  funext y
  refine congrArg X (funext fun a => Fin.ext ?_)
  revert a
  refine Fin.forall_fin_two.mpr ⟨?_, ?_⟩
  · show 512 * blk i + 1 * (y 0).val = 512 * blk i + (y 0).val; omega
  · show 0 + 1 * (y 1).val = (y 1).val; omega

/-- A load of a block's scores. -/
theorem ld_scoreRows (i : grid0.Coords) {off : Fin 2 → ℕ} (hoff : off = ![512 * blk i, 0])
    (inb : ∀ a, off a + S512x384.size a ≤ S2048x384.size a) (X : Vec F S2048x384 .f32) :
    View.ld (Val := Elt F) (e' := .f32) X (Rect.unit (s := S2048x384) off S512x384.size inb) = scoreRows (i 1) X := by
  subst hoff
  funext y
  refine congrArg X (funext fun a => Fin.ext ?_)
  revert a
  refine Fin.forall_fin_two.mpr ⟨?_, ?_⟩
  · show 512 * blk i + 1 * (y 0).val = 512 * blk i + (y 0).val; omega
  · show 0 + 1 * (y 1).val = (y 1).val; omega

/-- A load of a row of the statistics. -/
theorem ld_statRow (r : Fin 8) (inb : ∀ a, (![r.val, 0] : Fin 2 → ℕ) a + S1x384.size a ≤ S8x384.size a) (X : Vec F S8x384 .f32) :
    View.ld (Val := Elt F) (e' := .f32) X (Rect.unit (s := S8x384) ![r.val, 0] S1x384.size inb) = statRow r X := by
  funext y
  refine congrArg X (funext fun a => Fin.ext ?_)
  revert a
  have h0 : (y 0).val = 0 := by have : (y 0).val < 1 := (y 0).isLt; omega
  refine Fin.forall_fin_two.mpr ⟨?_, ?_⟩
  · show r.val + 1 * (y 0).val = r.val; omega
  · show 0 + 1 * (y 1).val = (y 1).val; omega

end Reads

end Cert.KernelIdeal.Hand

end
-- ==== Proof.KernelIdealBody.lean ====
/- The kernel's body at a grid point: from any contents of the scratch buffers it leaves them as the step says, and in
   the second sweep the result's staging buffer at the block's rows of the result. -/
module

public import proofs.«01_k».proof.Proof.Step
public import proofs.«01_k».proof.Proof.Gen.KernelIdeal.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the body makes of the scratch buffers `v0 … v3` at a grid point, and the block `d` it stages. In the first
    sweep it projects a block of keys and of values and scores the block's queries against the window of keys; in the
    second it takes the statistics once and weighs the values by the normalised scores. -/
structure Next (i : grid0.Coords) (x2 x3 x4 : Vec F S512x768 .f32) (x5 x6 x7 x8 : Vec F S768x768 .f32)
    (v0 v1 : Vec F S2080x768 .f32) (v2 : Vec F S2048x384 .f32) (v3 : Vec F S8x384 .f32)
    (v0' v1' : Vec F S2080x768 .f32) (v2' : Vec F S2048x384 .f32) (v3' : Vec F S8x384 .f32) (d : Vec F S512x768 .f32) : Prop where
  keys : v0' = if (i 0).val = 0 then projNext i x3 x6 v0 else v0
  values : v1' = if (i 0).val = 0 then projNext i x4 x7 v1 else v1
  scores : v2' = if (i 0).val = 0 then scoresNext i (k0_pay5 x2 x5) (window (i 1) v0') v2 else v2
  stats : v3' = if (i 0).val = 0 then v3 else statsNext i v2 v3
  out : (i 0).val ≠ 0 → d = outBlock (k0_pay63 (statRow 0 v3') (statRow 1 v3') (scoreRows (i 1) v2)) (window (i 1) v1) x8

/-- The scratch buffers, each whole at the contents named. -/
abbrev scratch (c : Dev nD)
    (g0 : Buf (Elt F) ((Memref.whole cc0_scratch0).view.loc (c : Thread nD τ))) (g1 : Buf (Elt F) ((Memref.whole cc0_scratch1).view.loc (c : Thread nD τ)))
    (g2 : Buf (Elt F) ((Memref.whole cc0_scratch2).view.loc (c : Thread nD τ))) (g3 : Buf (Elt F) ((Memref.whole cc0_scratch3).view.loc (c : Thread nD τ))) :
    sProp 𝕄 :=
  iprop(((Memref.whole cc0_scratch0).view.loc (c : Thread nD τ) ↦{fullShare} g0)
    ∗ ((Memref.whole cc0_scratch1).view.loc (c : Thread nD τ) ↦{fullShare} g1)
    ∗ ((Memref.whole cc0_scratch2).view.loc (c : Thread nD τ) ↦{fullShare} g2)
    ∗ ((Memref.whole cc0_scratch3).view.loc (c : Thread nD τ) ↦{fullShare} g3))

/-- A load of a whole staging buffer. -/
theorem load_rows {κ : Kind} {sp : Space} (v : View sig κ sp S512x768 .f32) (f : v.ty.Contents (Elt F))
    (inb : ∀ a, (![0, 0] : Fin 2 → ℕ) a + S512x768.size a ≤ S512x768.size a) :
    v.readAt (Elt F) (Rect.unit (s := S512x768) ![0, 0] S512x768.size inb).toLoadRect f = v.read (Elt F) f :=
  View.ld_unit_zero (S := S512x768) (funext (Fin.forall_fin_two.mpr ⟨rfl, rfl⟩)) inb (v.read (Elt F) f)

/-- A load of a whole weights buffer. -/
theorem load_weights {κ : Kind} {sp : Space} (v : View sig κ sp S768x768 .f32) (f : v.ty.Contents (Elt F))
    (inb : ∀ a, (![0, 0] : Fin 2 → ℕ) a + S768x768.size a ≤ S768x768.size a) :
    v.readAt (Elt F) (Rect.unit (s := S768x768) ![0, 0] S768x768.size inb).toLoadRect f = v.read (Elt F) f :=
  View.ld_unit_zero (S := S768x768) (funext (Fin.forall_fin_two.mpr ⟨rfl, rfl⟩)) inb (v.read (Elt F) f)

/-- A load of the whole scores buffer. -/
theorem load_scores {κ : Kind} {sp : Space} (v : View sig κ sp S2048x384 .f32) (f : v.ty.Contents (Elt F))
    (inb : ∀ a, (![0, 0] : Fin 2 → ℕ) a + S2048x384.size a ≤ S2048x384.size a) :
    v.readAt (Elt F) (Rect.unit (s := S2048x384) ![0, 0] S2048x384.size inb).toLoadRect f = v.read (Elt F) f :=
  View.ld_unit_zero (S := S2048x384) (funext (Fin.forall_fin_two.mpr ⟨rfl, rfl⟩)) inb (v.read (Elt F) f)

/-- A store over a whole staging buffer. -/
theorem store_rows {κ : Kind} {sp : Space} (v : View sig κ sp S512x768 .f32) (f : v.ty.Contents (Elt F))
    (inb : ∀ a, (![0, 0] : Fin 2 → ℕ) a + S512x768.size a ≤ S512x768.size a) (x : Vec F S512x768 .f32) :
    v.read (Elt F) (v.writes (Elt F) f [(⟨Rect.unit (s := S512x768) ![0, 0] S512x768.size inb, x⟩ : View.Piece (Elt F) S512x768 .f32)]) = x := by
  funext y
  refine View.read_writes_cons_unit_of_mem v f inb x [] y y rfl ?_
  refine Fin.forall_fin_two.mpr ⟨?_, ?_⟩
  · show (y 0).val = 0 + (y 0).val; omega
  · show (y 1).val = 0 + (y 1).val; omega

/-- When the body's first-block branch is taken. -/
theorem first_iff (i : grid0.Coords) :
    (Scalar.cmpi .ne (Scalar.extui (Scalar.cmpi .eq (BitVec.ofNat 32 (i 1).val) 0#32) : BitVec 32) 0#32 = 1#1) ↔ blk i = 0 := by
  revert i; decide

/-- Which of the two sweeps a point belongs to. -/
theorem sweep_iff (i : grid0.Coords) : (k0_cond1 i = 1#1 ↔ (i 0).val = 0) ∧ (k0_cond3 i = 1#1 ↔ (i 0).val ≠ 0) := by
  revert i; decide

/-- The projected rows as the first sweep stores them, whichever block it is. -/
theorem read_proj {κ : Kind} {sp : Space} (v : View sig κ sp S2080x768 .f32) (f : v.ty.Contents (Elt F)) (i : grid0.Coords)
    (inb : ∀ a, k0_off1 i a + S512x768.size a ≤ S2080x768.size a) (x : Vec F S512x768 .f32) (w : Vec F S768x768 .f32)
    (L : List (View.Piece (Elt F) S2080x768 .f32)) (hL : v.read (Elt F) (v.writes (Elt F) f L) = cleared i (v.read (Elt F) f)) :
    v.read (Elt F) (v.writes (Elt F) f ((⟨Rect.unit (k0_off1 i) S512x768.size inb, k0_pay6 x w⟩ : View.Piece (Elt F) S2080x768 .f32) :: L))
      = projNext i x w (v.read (Elt F) f) := by
  rw [read_putRows, hL]; rfl

section Sweeps

variable {κ : Kind} {sp : Space}
  (i : grid0.Coords)
  (a2 a3 a4 : View sig κ sp S512x768 .f32) (a5 a6 a7 a8 : View sig κ sp S768x768 .f32)
  (s0 s1 : View sig κ sp S2080x768 .f32) (s2 : View sig κ sp S2048x384 .f32) (s3 : View sig κ sp S8x384 .f32)

/-- A point of the first sweep, from what its stores before the projected rows leave. -/
theorem next_first_sweep (h1 : k0_cond1 i = 1#1) (hs : (i 0).val = 0)
    (f2 : a2.ty.Contents (Elt F)) (f3 : a3.ty.Contents (Elt F)) (f4 : a4.ty.Contents (Elt F)) (f5 : a5.ty.Contents (Elt F))
    (f6 : a6.ty.Contents (Elt F)) (f7 : a7.ty.Contents (Elt F)) (x8 : Vec F S768x768 .f32)
    (g0 : s0.ty.Contents (Elt F)) (g1 : s1.ty.Contents (Elt F)) (g2 : s2.ty.Contents (Elt F)) (v3 : Vec F S8x384 .f32)
    (d : Vec F S512x768 .f32) (inb inb' inbW inbW')
    (L0 : List (View.Piece (Elt F) S2080x768 .f32)) (hL0 : s0.read (Elt F) (s0.writes (Elt F) g0 L0) = cleared i (s0.read (Elt F) g0))
    (L1 : List (View.Piece (Elt F) S2080x768 .f32)) (hL1 : s1.read (Elt F) (s1.writes (Elt F) g1 L1) = cleared i (s1.read (Elt F) g1)) :
    let ld2 : Vec F S512x768 .f32 := a2.readAt (Elt F) (Rect.unit (s := S512x768) ![0, 0] S512x768.size inb).toLoadRect f2
    let ld3 : Vec F S512x768 .f32 := a3.readAt (Elt F) (Rect.unit (s := S512x768) ![0, 0] S512x768.size inb).toLoadRect f3
    let ld4 : Vec F S512x768 .f32 := a4.readAt (Elt F) (Rect.unit (s := S512x768) ![0, 0] S512x768.size inb).toLoadRect f4
    let ld5 : Vec F S768x768 .f32 := a5.readAt (Elt F) (Rect.unit (s := S768x768) ![0, 0] S768x768.size inb').toLoadRect f5
    let ld6 : Vec F S768x768 .f32 := a6.readAt (Elt F) (Rect.unit (s := S768x768) ![0, 0] S768x768.size inb').toLoadRect f6
    let ld7 : Vec F S768x768 .f32 := a7.readAt (Elt F) (Rect.unit (s := S768x768) ![0, 0] S768x768.size inb').toLoadRect f7
    let g0' := s0.writes (Elt F) g0 ((⟨Rect.unit (s := S2080x768) (k0_off1 i) S512x768.size inbW, k0_pay6 ld3 ld6⟩ : View.Piece (Elt F) S2080x768 .f32) :: L0)
    let g1' := s1.writes (Elt F) g1 ((⟨Rect.unit (s := S2080x768) (k0_off1 i) S512x768.size inbW, k0_pay7 ld4 ld7⟩ : View.Piece (Elt F) S2080x768 .f32) :: L1)
    let kw : Vec F S544x768 .f32 := s0.readAt (Elt F) (Rect.unit (s := S2080x768) (k0_off2 i) S544x768.size inbW').toLoadRect g0'
    let qb : FVec F S512x768 .f32 := k0_pay5 ld2 ld5
    Next i (a2.read (Elt F) f2) (a3.read (Elt F) f3) (a4.read (Elt F) f4) (a5.read (Elt F) f5) (a6.read (Elt F) f6) (a7.read (Elt F) f7) x8
      (s0.read (Elt F) g0) (s1.read (Elt F) g1) (s2.read (Elt F) g2) v3
      (s0.read (Elt F) g0') (s1.read (Elt F) g1')
      (s2.read (Elt F) (s2.writes (Elt F) g2
      [⟨Rect.unit (s := S2048x384) (k0_off10 i) S512x48.size (k0_off10_inb i h1), scoreGroup (BitVec.ofNat 32 (i 1).val) (4 * 7) (by decide) qb kw⟩,
       ⟨Rect.unit (s := S2048x384) (k0_off9 i) S512x48.size (k0_off9_inb i h1), scoreGroup (BitVec.ofNat 32 (i 1).val) (4 * 6) (by decide) qb kw⟩,
       ⟨Rect.unit (s := S2048x384) (k0_off8 i) S512x48.size (k0_off8_inb i h1), scoreGroup (BitVec.ofNat 32 (i 1).val) (4 * 5) (by decide) qb kw⟩,
       ⟨Rect.unit (s := S2048x384) (k0_off7 i) S512x48.size (k0_off7_inb i h1), scoreGroup (BitVec.ofNat 32 (i 1).val) (4 * 4) (by decide) qb kw⟩,
       ⟨Rect.unit (s := S2048x384) (k0_off6 i) S512x48.size (k0_off6_inb i h1), scoreGroup (BitVec.ofNat 32 (i 1).val) (4 * 3) (by decide) qb kw⟩,
       ⟨Rect.unit (s := S2048x384) (k0_off5 i) S512x48.size (k0_off5_inb i h1), scoreGroup (BitVec.ofNat 32 (i 1).val) (4 * 2) (by decide) qb kw⟩,
       ⟨Rect.unit (s := S2048x384) (k0_off4 i) S512x48.size (k0_off4_inb i h1), scoreGroup (BitVec.ofNat 32 (i 1).val) (4 * 1) (by decide) qb kw⟩,
       ⟨Rect.unit (s := S2048x384) (k0_off3 i) S512x48.size (k0_off3_inb i h1), scoreGroup (BitVec.ofNat 32 (i 1).val) (4 * 0) (by decide) qb kw⟩]))
      v3 d := by
  intro ld2 ld3 ld4 ld5 ld6 ld7 g0' g1' kw qb
  have e2 : ld2 = a2.read (Elt F) f2 := load_rows a2 f2 inb
  have e3 : ld3 = a3.read (Elt F) f3 := load_rows a3 f3 inb
  have e4 : ld4 = a4.read (Elt F) f4 := load_rows a4 f4 inb
  have e5 : ld5 = a5.read (Elt F) f5 := load_weights a5 f5 inb'
  have e6 : ld6 = a6.read (Elt F) f6 := load_weights a6 f6 inb'
  have e7 : ld7 = a7.read (Elt F) f7 := load_weights a7 f7 inb'
  have hk : s0.read (Elt F) g0' = projNext i ld3 ld6 (s0.read (Elt F) g0) := read_proj s0 g0 i inbW ld3 ld6 L0 hL0
  have hv : s1.read (Elt F) g1' = projNext i ld4 ld7 (s1.read (Elt F) g1) := read_proj s1 g1 i inbW ld4 ld7 L1 hL1
  have hw : kw = window (i 1) (s0.read (Elt F) g0') := ld_window i (off2_eq i) inbW' (s0.read (Elt F) g0')
  refine ⟨?_, ?_, ?_, ?_, fun h => absurd hs h⟩
  · rw [if_pos hs, hk, e3, e6]
  · rw [if_pos hs, hv, e4, e7]
  · rw [if_pos hs, read_scores s2 g2 i h1 qb kw, hw]
    show scoresNext i (k0_pay5 ld2 ld5) _ _ = _
    rw [e2, e5]
  · rw [if_pos hs]

/-- A point of the second sweep, from what its stores of the statistics leave and its loads of them read. -/
theorem next_second_sweep (h3 : k0_cond3 i = 1#1) (hs : (i 0).val ≠ 0)
    (x2 x3 x4 : Vec F S512x768 .f32) (x5 x6 x7 : Vec F S768x768 .f32) (f8 : a8.ty.Contents (Elt F))
    (v0 : Vec F S2080x768 .f32) (g1 : s1.ty.Contents (Elt F)) (g2 : s2.ty.Contents (Elt F)) (v3 v3' : Vec F S8x384 .f32)
    (a9 : View sig κ sp S512x768 .f32) (f9 : a9.ty.Contents (Elt F)) (inb inb' inbS inbV)
    (hL : v3' = statsNext i (s2.read (Elt F) g2) v3) (m z : Vec F S1x384 .f32)
    (hm : m = statRow 0 (statsNext i (s2.read (Elt F) g2) v3)) (hz : z = statRow 1 (statsNext i (s2.read (Elt F) g2) v3)) :
    let s : Vec F S512x384 .f32 := s2.readAt (Elt F) (Rect.unit (s := S2048x384) (k0_off11 i) S512x384.size inbS).toLoadRect g2
    let v : Vec F S544x768 .f32 := s1.readAt (Elt F) (Rect.unit (s := S2080x768) (k0_off12 i) S544x768.size inbV).toLoadRect g1
    Next i x2 x3 x4 x5 x6 x7 (a8.read (Elt F) f8) v0 (s1.read (Elt F) g1) (s2.read (Elt F) g2) v3
      v0 (s1.read (Elt F) g1) (s2.read (Elt F) g2) v3'
      (a9.read (Elt F) (a9.writes (Elt F) f9 [(⟨Rect.unit (s := S512x768) ![0, 0] S512x768.size inb,
        outRun m z s v (a8.readAt (Elt F) (Rect.unit (s := S768x768) ![0, 0] S768x768.size inb').toLoadRect f8)⟩ : View.Piece (Elt F) S512x768 .f32)])) := by
  intro s v
  have e8 := load_weights a8 f8 inb'
  have hr : s = scoreRows (i 1) (s2.read (Elt F) g2) := ld_scoreRows i (off11_eq i) inbS _
  have hv : v = window (i 1) (s1.read (Elt F) g1) := ld_window i (off12_eq i) inbV _
  refine ⟨(if_neg hs).symm, (if_neg hs).symm, (if_neg hs).symm, ?_, fun _ => ?_⟩
  · rw [if_neg hs]; exact hL
  · rw [store_rows, outRun_eq, e8, hv, hm, hz, hr, hL]

/-- The first block's statistics as its loads read them back, whatever the buffer held before. -/
theorem read_back (hi : blk i = 0) (s : Vec F S2048x384 .f32) (v3 : Vec F S8x384 .f32) (r : Fin 8) (hr : r = 0 ∨ r = 1)
    (inb : ∀ a, (![r.val, 0] : Fin 2 → ℕ) a + S1x384.size a ≤ S8x384.size a) (inb0 inb1) :
    s3.readCov [(⟨Rect.unit ![1, 0] S1x384.size inb1, k0_pay62 s⟩ : View.Piece (Elt F) S8x384 .f32), ⟨Rect.unit ![0, 0] S1x384.size inb0, k0_pay61 s⟩]
      (Rect.unit (s := S8x384) ![r.val, 0] S1x384.size inb).toLoadRect = statRow r (statsNext i s v3) := by
  refine (ld_statRow r inb (s3.read (Elt F) (s3.writes (Elt F) s3.junk
    [(⟨Rect.unit ![1, 0] S1x384.size inb1, k0_pay62 s⟩ : View.Piece (Elt F) S8x384 .f32), ⟨Rect.unit ![0, 0] S1x384.size inb0, k0_pay61 s⟩]))).trans ?_
  rw [read_stats _ _ i hi]
  funext y
  show statsNext i s _ _ = statsNext i s _ _
  unfold statsNext
  rw [if_pos hi, if_pos hi]
  rcases hr with rfl | rfl
  · rfl
  · rfl

end Sweeps

set_option maxHeartbeats 2000000 in
/-- The body at any grid point: the inputs are left as found, the scratch buffers and the staging buffer as `Next` says. -/
theorem body_run (c : Dev nD) (i : grid0.Coords)
    (arg2 : Memref sig .tc .vmem S512x768 .f32) (harg2 : arg2.IsWhole) (arg3 : Memref sig .tc .vmem S512x768 .f32) (harg3 : arg3.IsWhole)
    (arg4 : Memref sig .tc .vmem S512x768 .f32) (harg4 : arg4.IsWhole) (arg5 : Memref sig .tc .vmem S768x768 .f32) (harg5 : arg5.IsWhole)
    (arg6 : Memref sig .tc .vmem S768x768 .f32) (harg6 : arg6.IsWhole) (arg7 : Memref sig .tc .vmem S768x768 .f32) (harg7 : arg7.IsWhole)
    (arg8 : Memref sig .tc .vmem S768x768 .f32) (harg8 : arg8.IsWhole) (arg9 : Memref sig .tc .vmem S512x768 .f32) (harg9 : arg9.IsWhole)
    (x2 x3 x4 : Vec F S512x768 .f32) (x5 x6 x7 x8 : Vec F S768x768 .f32)
    (g0 : Buf (Elt F) ((Memref.whole cc0_scratch0).view.loc (c : Thread nD τ))) (g1 : Buf (Elt F) ((Memref.whole cc0_scratch1).view.loc (c : Thread nD τ)))
    (g2 : Buf (Elt F) ((Memref.whole cc0_scratch2).view.loc (c : Thread nD τ))) (g3 : Buf (Elt F) ((Memref.whole cc0_scratch3).view.loc (c : Thread nD τ)))
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ (∃ d, owns (c : Thread nD τ) arg9 fullShare d)
        ∗ scratch c g0 g1 g2 g3
        ∗ (∀ g0', ∀ g1', ∀ g2', ∀ g3', ∀ d, ⌜Next i x2 x3 x4 x5 x6 x7 x8
              ((Memref.whole cc0_scratch0).view.read (Elt F) g0) ((Memref.whole cc0_scratch1).view.read (Elt F) g1)
              ((Memref.whole cc0_scratch2).view.read (Elt F) g2) ((Memref.whole cc0_scratch3).view.read (Elt F) g3)
              ((Memref.whole cc0_scratch0).view.read (Elt F) g0') ((Memref.whole cc0_scratch1).view.read (Elt F) g1')
              ((Memref.whole cc0_scratch2).view.read (Elt F) g2') ((Memref.whole cc0_scratch3).view.read (Elt F) g3') d⌝
            -∗ iprop(owns (c : Thread nD τ) arg2 fullShare x2 ∗ owns (c : Thread nD τ) arg3 fullShare x3 ∗ owns (c : Thread nD τ) arg4 fullShare x4
              ∗ owns (c : Thread nD τ) arg5 fullShare x5 ∗ owns (c : Thread nD τ) arg6 fullShare x6 ∗ owns (c : Thread nD τ) arg7 fullShare x7
              ∗ owns (c : Thread nD τ) arg8 fullShare x8 ∗ owns (c : Thread nD τ) arg9 fullShare d
              ∗ scratch c g0' g1' g2' g3') -∗ K ⟨⟩))
      ⊢ wp frame (wpE (defs₀ (F := F)) Variants.none c none) Set.univ
          (cc0__fused_body i arg2 harg2 arg3 harg3 arg4 harg4 arg5 harg5 arg6 harg6 arg7 harg7 arg8 harg8 arg9 harg9
            (Memref.whole cc0_scratch0) (Memref.isWhole_whole _) (Memref.whole cc0_scratch1) (Memref.isWhole_whole _)
            (Memref.whole cc0_scratch2) (Memref.isWhole_whole _) (Memref.whole cc0_scratch3) (Memref.isWhole_whole _)) K := by
  simp only [cc0__fused_body_eq_skeleton]; unfold cc0__fused_body_skel
  unfold owns scratch
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨S0, S1, S2, S3⟩, Hk⟩
  have hx : k0_cond1 i = 1#1 ∧ ¬ k0_cond3 i = 1#1 ∨ ¬ k0_cond1 i = 1#1 ∧ k0_cond3 i = 1#1 := by
    revert i; decide
  by_cases hj : Scalar.cmpi .ne (Scalar.extui (Scalar.cmpi .eq (BitVec.ofNat 32 (i 1).val) 0#32) : BitVec 32) 0#32 = 1#1
  all_goals rcases hx with ⟨h1, h3⟩ | ⟨h1, h3⟩
  all_goals
    sl_exec_parts (disch := first | exact h1 | exact h3 | exact hj)
    sl_step
    iapply Hk
    rotate_left
    · isplitl [H2]; · iexists _; isplitr; swap; · iexact H2
                      ipureintro; exact e2
      isplitl [H3]; · iexists _; isplitr; swap; · iexact H3
                      ipureintro; exact e3
      isplitl [H4]; · iexists _; isplitr; swap; · iexact H4
                      ipureintro; exact e4
      isplitl [H5]; · iexists _; isplitr; swap; · iexact H5
                      ipureintro; exact e5
      isplitl [H6]; · iexists _; isplitr; swap; · iexact H6
                      ipureintro; exact e6
      isplitl [H7]; · iexists _; isplitr; swap; · iexact H7
                      ipureintro; exact e7
      isplitl [H8]; · iexists _; isplitr; swap; · iexact H8
                      ipureintro; exact e8
      isplitl [H9]; · iexists _; isplitr; swap; · iexact H9
                      ipureintro; rfl
      isplitl [S0]; · iexact S0
      isplitl [S1]; · iexact S1
      isplitl [S2]; · iexact S2
      iexact S3
    ipureintro
    subst e2 e3 e4 e5 e6 e7 e8
  · have hb : blk i = 0 := (first_iff i).mp hj
    have hs : (i 0).val = 0 := (sweep_iff i).1.mp h1
    exact next_first_sweep i arg2.view arg3.view arg4.view arg5.view arg6.view arg7.view (Memref.whole cc0_scratch0).view (Memref.whole cc0_scratch1).view (Memref.whole cc0_scratch2).view
      h1 hs _ _ _ _ _ _ _ _ _ _ _ _ _ _ _ _
      [⟨Rect.unit ![0, 0] S32x768.size inb_S2080x768_S32x768_0_0, k0_pay3 (F := F)⟩] (read_cleared _ _ i hb _)
      [⟨Rect.unit ![0, 0] S32x768.size inb_S2080x768_S32x768_0_0, k0_pay3 (F := F)⟩] (read_cleared _ _ i hb _)
  · have hb : blk i = 0 := (first_iff i).mp hj
    have hs : (i 0).val ≠ 0 := (sweep_iff i).2.mp h3
    exact next_second_sweep i arg8.view (Memref.whole cc0_scratch1).view (Memref.whole cc0_scratch2).view h3 hs
      (arg2.view.read (Elt F) f2) (arg3.view.read (Elt F) f3) (arg4.view.read (Elt F) f4)
      (arg5.view.read (Elt F) f5) (arg6.view.read (Elt F) f6) (arg7.view.read (Elt F) f7) f8
      ((Memref.whole cc0_scratch0).view.read (Elt F) g0) g1 g2 ((Memref.whole cc0_scratch3).view.read (Elt F) g3) _
      arg9.view f9 inb_S512x768_S512x768_0_0 inb_S768x768_S768x768_0_0 (k0_off11_inb i h3) (k0_off12_inb i h3)
      ((read_stats _ _ i hb _ _ _).trans (by rw [load_scores])) _ _
      ((read_back i _ hb _ _ 0 (.inl rfl) _ _ _).trans (by rw [load_scores]))
      ((read_back i _ hb _ _ 1 (.inr rfl) _ _ _).trans (by rw [load_scores]))
  · have hb : blk i ≠ 0 := fun h => hj ((first_iff i).mpr h)
    have hs : (i 0).val = 0 := (sweep_iff i).1.mp h1
    exact next_first_sweep i arg2.view arg3.view arg4.view arg5.view arg6.view arg7.view (Memref.whole cc0_scratch0).view (Memref.whole cc0_scratch1).view (Memref.whole cc0_scratch2).view
      h1 hs _ _ _ _ _ _ _ _ _ _ _ _ _ _ _ _ [] (cleared_of_ne i hb _).symm [] (cleared_of_ne i hb _).symm
  · have hb : blk i ≠ 0 := fun h => hj ((first_iff i).mpr h)
    have hs : (i 0).val ≠ 0 := (sweep_iff i).2.mp h3
    exact next_second_sweep i arg8.view (Memref.whole cc0_scratch1).view (Memref.whole cc0_scratch2).view h3 hs
      (arg2.view.read (Elt F) f2) (arg3.view.read (Elt F) f3) (arg4.view.read (Elt F) f4)
      (arg5.view.read (Elt F) f5) (arg6.view.read (Elt F) f6) (arg7.view.read (Elt F) f7) f8
      ((Memref.whole cc0_scratch0).view.read (Elt F) g0) g1 g2 ((Memref.whole cc0_scratch3).view.read (Elt F) g3) _
      arg9.view f9 inb_S512x768_S512x768_0_0 inb_S768x768_S768x768_0_0 (k0_off11_inb i h3) (k0_off12_inb i h3)
      (statsNext_of_ne i hb _ _).symm _ _
      ((ld_statRow 0 _ _).trans (by rw [statsNext_of_ne i hb]))
      ((ld_statRow 1 _ _).trans (by rw [statsNext_of_ne i hb]))

end Cert.KernelIdeal.Hand

end
-- ==== Proof.State.lean ====
/- The contents the scratch buffers build up over the grid, as functions of the region's seven input arrays, and the fact
   that each grid point's step keeps to them. -/
module

public import proofs.«01_k».proof.Proof.KernelIdealBody

@[expose] public section

set_option maxRecDepth 16384

noncomputable section

namespace Cert.KernelIdeal.Hand

open Cert.KernelIdeal.Gen
open Idealize.ShloMosaic Idealize.ShloMosaic.Pointwise

variable {F : FTy → Type} [FloatOps F]

/-- Block `b` of 512 rows of an array. -/
def rowsOf (b : Fin 4) (X : Vec F S2048x768 .f32) : Vec F S512x768 .f32 := fun y =>
  X (ix2 (n0 := 2048) (n1 := 768) ⟨512 * b.val + (y 0).val, by have := b.isLt; have := (y 0).isLt; have h : (y 0).val < 512 := this; omega⟩ (y 1))

/-- The projected rows of an array, 32 rows of zeros in front. -/
def paddedRows (X : Vec F S2048x768 .f32) (wt : Vec F S768x768 .f32) : Vec F S2080x768 .f32 := fun y =>
  if h : 32 ≤ (y 0).val then
    k0_pay6 (rowsOf ⟨((y 0).val - 32) / 512, by have := (y 0).isLt; have h : (y 0).val < 2080 := this; omega⟩ X) wt
      (ix2 (n0 := 512) (n1 := 768) ⟨((y 0).val - 32) % 512, Nat.mod_lt _ (by decide)⟩ (y 1))
  else Scalar.ofBits .f32 0x00000000#32

/-- Every block's scores. -/
def allScores (Q : Vec F S2048x768 .f32) (wq : Vec F S768x768 .f32) (ks : Vec F S2080x768 .f32) : Vec F S2048x384 .f32 := fun y =>
  let b : Fin 4 := ⟨(y 0).val / 512, by have := (y 0).isLt; have h : (y 0).val < 2048 := this; omega⟩
  blockScores b (k0_pay5 (rowsOf b Q) wq) (window b ks) ⟨(y 0).val % 512, Nat.mod_lt _ (by decide)⟩ (y 1)

/-- One block of the result, from all scores and all projected values. -/
def resultRows (b : Fin 4) (S : Vec F S2048x384 .f32) (vs : Vec F S2080x768 .f32) (wo : Vec F S768x768 .f32) : Vec F S512x768 .f32 :=
  outBlock (k0_pay63 (k0_pay61 S) (k0_pay62 S) (scoreRows b S)) (window b vs) wo

/-- The whole result. -/
def result (S : Vec F S2048x384 .f32) (vs : Vec F S2080x768 .f32) (wo : Vec F S768x768 .f32) : Vec F S2048x768 .f32 := fun y =>
  resultRows ⟨(y 0).val / 512, by have := (y 0).isLt; have h : (y 0).val < 2048 := this; omega⟩ S vs wo
    (ix2 (n0 := 512) (n1 := 768) ⟨(y 0).val % 512, Nat.mod_lt _ (by decide)⟩ (y 1))

/-- An index of a single row is its column. -/
theorem row_eq (y : S1x384.Idx) : ix2 (n0 := 1) (n1 := 384) 0 (y 1) = y := by
  refine ((eq_ix2 (n0 := 1) (n1 := 384) y).trans ?_).symm
  exact congrArg (fun a => ix2 (n0 := 1) (n1 := 384) a (y 1)) (Fin.ext (by have h : (y 0).val < 1 := (y 0).isLt; show (y 0).val = 0; omega))

/-- The first block's statistics, row by row. -/
theorem statRow_maxima (i : grid0.Coords) (h : blk i = 0) (s : Vec F S2048x384 .f32) (v : Vec F S8x384 .f32) :
    statRow 0 (statsNext i s v) = k0_pay61 s := by
  funext y
  show (if blk i = 0 then _ else _) = _
  rw [if_pos h]
  exact congrArg (k0_pay61 s) (row_eq y)

/-- The row of sums after the first block. -/
theorem statRow_sums (i : grid0.Coords) (h : blk i = 0) (s : Vec F S2048x384 .f32) (v : Vec F S8x384 .f32) :
    statRow 1 (statsNext i s v) = k0_pay62 s := by
  funext y
  show (if blk i = 0 then _ else _) = _
  rw [if_pos h]
  exact congrArg (k0_pay62 s) (row_eq y)

section Invariant

variable (KS VS : Vec F S2080x768 .f32) (SS : Vec F S2048x384 .f32)

/-- What the scratch buffers hold after `n` grid points: the rows projected and scored so far and, once the second sweep has
    begun, the statistics. -/
structure Inv (n : ℕ) (v0 v1 : Vec F S2080x768 .f32) (v2 : Vec F S2048x384 .f32) (v3 : Vec F S8x384 .f32) : Prop where
  keys : ∀ y : S2080x768.Idx, 1 ≤ n → (y 0).val < 32 + 512 * min n 4 → v0 y = KS y
  values : ∀ y : S2080x768.Idx, 1 ≤ n → (y 0).val < 32 + 512 * min n 4 → v1 y = VS y
  scores : ∀ y : S2048x384.Idx, (y 0).val < 512 * min n 4 → v2 y = SS y
  maxima : 5 ≤ n → statRow 0 v3 = k0_pay61 SS
  sums : 5 ≤ n → statRow 1 v3 = k0_pay62 SS

variable {KS VS SS}

/-- The state before the first point. -/
theorem Inv.start (v0 v1 : Vec F S2080x768 .f32) (v2 : Vec F S2048x384 .f32) (v3 : Vec F S8x384 .f32) : Inv KS VS SS 0 v0 v1 v2 v3 :=
  ⟨fun _ h => by omega, fun _ h => by omega, fun _ h => by omega, fun h => by omega, fun h => by omega⟩

end Invariant

/-- A point of the first sweep extends the projected rows by a block. -/
theorem projNext_keeps (X : Vec F S2048x768 .f32) (wt : Vec F S768x768 .f32) (i : grid0.Coords) (v : Vec F S2080x768 .f32) (n : ℕ)
    (hn : n = blk i) (hv : ∀ y : S2080x768.Idx, 1 ≤ n → (y 0).val < 32 + 512 * min n 4 → v y = paddedRows X wt y)
    (y : S2080x768.Idx) (hy : (y 0).val < 32 + 512 * min (n + 1) 4) :
    projNext i (rowsOf (i 1) X) wt v y = paddedRows X wt y := by
  have hb := blk_lt i
  unfold projNext putRows
  by_cases h : 512 * blk i + 32 ≤ (y 0).val ∧ (y 0).val < 512 * blk i + 32 + 512
  · rw [dif_pos h]
    unfold paddedRows
    rw [dif_pos (by omega)]
    have e1 : (⟨((y 0).val - 32) / 512, by omega⟩ : Fin 4) = i 1 := Fin.ext (show ((y 0).val - 32) / 512 = blk i by omega)
    rw [e1]
    congr 2
    exact Fin.ext (show (y 0).val - (512 * blk i + 32) = ((y 0).val - 32) % 512 by omega)
  · rw [dif_neg h]
    unfold cleared
    by_cases h0 : blk i = 0 ∧ (y 0).val < 32
    · rw [if_pos h0]
      unfold paddedRows
      rw [dif_neg (by omega)]
    · rw [if_neg h0]
      exact hv y (by omega) (by omega)

variable (Q K V : Vec F S2048x768 .f32) (wq wk wv wo : Vec F S768x768 .f32)

/-- Every step keeps to the contents, and the second sweep's steps stage the result's blocks. -/
theorem Inv.next (i : grid0.Coords) (n : ℕ) (hn : n = 4 * (i 0).val + (i 1).val)
    (x2 x3 x4 : Vec F S512x768 .f32) (h2 : (i 0).val = 0 → x2 = rowsOf (i 1) Q) (h3 : (i 0).val = 0 → x3 = rowsOf (i 1) K)
    (h4 : (i 0).val = 0 → x4 = rowsOf (i 1) V)
    (v0 v1 : Vec F S2080x768 .f32) (v2 : Vec F S2048x384 .f32) (v3 : Vec F S8x384 .f32)
    (v0' v1' : Vec F S2080x768 .f32) (v2' : Vec F S2048x384 .f32) (v3' : Vec F S8x384 .f32) (d : Vec F S512x768 .f32)
    (h : Inv (paddedRows K wk) (paddedRows V wv) (allScores Q wq (paddedRows K wk)) n v0 v1 v2 v3)
    (hN : Next i x2 x3 x4 wq wk wv wo v0 v1 v2 v3 v0' v1' v2' v3' d) :
    Inv (paddedRows K wk) (paddedRows V wv) (allScores Q wq (paddedRows K wk)) (n + 1) v0' v1' v2' v3'
      ∧ ((i 0).val ≠ 0 → d = resultRows (i 1) (allScores Q wq (paddedRows K wk)) (paddedRows V wv) wo) := by
  have hb : (i 1).val < 4 := (i 1).isLt
  by_cases hs : (i 0).val = 0
  · obtain rfl := h2 hs
    obtain rfl := h3 hs
    obtain rfl := h4 hs
    have hk := hN.keys; rw [if_pos hs] at hk
    have hv := hN.values; rw [if_pos hs] at hv
    have hsc := hN.scores; rw [if_pos hs] at hsc
    have hnb : n = blk i := by show n = (i 1).val; omega
    have hk' : ∀ y : S2080x768.Idx, (y 0).val < 32 + 512 * min (n + 1) 4 → v0' y = paddedRows K wk y := fun y hy => by
      rw [hk]; exact projNext_keeps K wk i v0 n hnb h.keys y hy
    refine ⟨⟨fun y _ hy => hk' y hy, fun y _ hy => ?_, fun y hy => ?_, fun h5 => by omega, fun h5 => by omega⟩, fun h' => absurd hs h'⟩
    · rw [hv]; exact projNext_keeps V wv i v1 n hnb h.values y hy
    · rw [hsc]
      unfold scoresNext
      by_cases hr : 512 * blk i ≤ (y 0).val ∧ (y 0).val < 512 * blk i + 512
      · rw [dif_pos hr]
        unfold allScores
        have e1 : (⟨(y 0).val / 512, by omega⟩ : Fin 4) = i 1 := Fin.ext (show (y 0).val / 512 = blk i by omega)
        have ew : window (i 1) v0' = window (i 1) (paddedRows K wk) := by
          funext z
          have hz : (z 0).val < 544 := (z 0).isLt
          exact hk' _ (show 512 * (i 1).val + (z 0).val < 32 + 512 * min (n + 1) 4 by omega)
        have e2 : (⟨(y 0).val - 512 * blk i, by omega⟩ : Fin 512) = ⟨(y 0).val % 512, Nat.mod_lt _ (by decide)⟩ :=
          Fin.ext (show (y 0).val - 512 * blk i = (y 0).val % 512 by omega)
        rw [ew]
        dsimp only
        rw [e1, e2]
      · rw [dif_neg hr]
        exact h.scores y (by omega)
  · have hs1 : (i 0).val = 1 := by have : (i 0).val < 2 := (i 0).isLt; omega
    have hk := hN.keys; rw [if_neg hs] at hk
    have hv := hN.values; rw [if_neg hs] at hv
    have hsc := hN.scores; rw [if_neg hs] at hsc
    have hst := hN.stats; rw [if_neg hs] at hst
    have eS : v2 = allScores Q wq (paddedRows K wk) := by
      funext y
      have hy : (y 0).val < 2048 := (y 0).isLt
      exact h.scores y (by omega)
    have eV : v1 = paddedRows V wv := by
      funext y
      have hy : (y 0).val < 2080 := (y 0).isLt
      exact h.values y (by omega) (by omega)
    have eM : statRow 0 v3' = k0_pay61 (allScores Q wq (paddedRows K wk)) := by
      rw [hst]
      by_cases hb0 : blk i = 0
      · rw [statRow_maxima i hb0, eS]
      · rw [statsNext_of_ne i hb0]
        exact h.maxima (by have : (i 1).val ≠ 0 := hb0; omega)
    have eZ : statRow 1 v3' = k0_pay62 (allScores Q wq (paddedRows K wk)) := by
      rw [hst]
      by_cases hb0 : blk i = 0
      · rw [statRow_sums i hb0, eS]
      · rw [statsNext_of_ne i hb0]
        exact h.sums (by have : (i 1).val ≠ 0 := hb0; omega)
    refine ⟨⟨fun y _ hy => ?_, fun y _ hy => ?_, fun y hy => ?_, fun _ => eM, fun _ => eZ⟩, fun h' => ?_⟩
    · rw [hk]; exact h.keys y (by omega) (by omega)
    · rw [hv]; exact h.values y (by omega) (by omega)
    · rw [hsc]; exact h.scores y (by omega)
    · rw [hN.out h', eM, eZ, eS, eV]; rfl

end Cert.KernelIdeal.Hand

end
-- ==== Proof.LaunchTail.lean ====
/- The launch of a pipelined region of relational proof data, continued by host lines, with what those lines compute
   kept: the contents of every buffer that bypasses the region are those of the host lines run from some array contents
   the relation allows. -/
module

public import Idealize.ShloMosaic.Lib.Pipeline.FrameSuffix

@[expose] public section

noncomputable section

namespace Cert.Hand

open Idealize.ShloMosaic Idealize.ShloMosaic.Pipeline Idealize.ShloMosaic.Rounds
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (pcs : P → PCfg sig Λ₀ Val) (a : (p : P) → (pcs p).Adm) (p : P)
  (kit₀ : PLaunchFacts₀ (nD := nD) (τ := τ) pcs p) (defs₀ : Defs nD τ sig Val Λ₀) (𝒱₀ : Variants)

/-- What the arrays may hold when the region ends, as one contents for each window. -/
theorem arraysAt_open {c : Dev nD} (rd : RDat τ Val Unit ℕ (UR sig nD τ) ℕ (pin pcs a p) c) :
    (rd.arraysAt (pin pcs a p).N : sProp 𝕄) ⊢ iprop(∃ A, ⌜∀ w, rd.ArrAt w (pin pcs a p).N (A w)⌝ ∗ rd.arrays A) := by
  unfold RDat.arraysAt
  iintro Ha
  ihave Hb := (BI.bigSep_exists_pi Finset.univ (fun w F => iprop(⌜rd.ArrAt w (pin pcs a p).N F⌝
      ∗ ((pin pcs a p).win w).arr.view.loc (c.tc : Thread nD τ) ↦[((pin pcs a p).win w).arr.view.set]{rd.share w} F))) $$ Ha
  icases Hb with ⟨%A, Hb⟩
  ihave Hc := (BI.bigSep_pure_sep Finset.univ (fun w => rd.ArrAt w (pin pcs a p).N (A w))
      (fun w => ((pin pcs a p).win w).arr.view.loc (c.tc : Thread nD τ) ↦[((pin pcs a p).win w).arr.view.set]{rd.share w} A w)) $$ Hb
  icases Hc with ⟨%hA, Hc⟩
  iexists A
  isplitr
  · ipureintro; exact fun w => hA w (Finset.mem_univ w)
  · unfold RDat.arrays; iexact Hc

/-- The converse. -/
theorem arraysAt_close {c : Dev nD} (rd : RDat τ Val Unit ℕ (UR sig nD τ) ℕ (pin pcs a p) c) (A) (hA : ∀ w, rd.ArrAt w (pin pcs a p).N (A w)) :
    (rd.arrays A : sProp 𝕄) ⊢ rd.arraysAt (pin pcs a p).N := by
  unfold RDat.arraysAt RDat.arrays
  refine BI.bigSep_mono fun w _ => ?_
  show (((pin pcs a p).win w).arr.view.loc (c.tc : Thread nD τ) ↦[((pin pcs a p).win w).arr.view.set]{rd.share w} A w : sProp 𝕄)
    ⊢ iprop(∃ F, ⌜rd.ArrAt w (pin pcs a p).N F⌝ ∗ ((pin pcs a p).win w).arr.view.loc (c.tc : Thread nD τ) ↦[((pin pcs a p).win w).arr.view.set]{rd.share w} F)
  iintro H
  iexists (A w)
  isplitr
  · ipureintro; exact hA w
  · iexact H

/-- The contents of buffer `b` after the host lines `opss`, run from the region's entry contents `V` with the arrays at
    `A`. -/
abbrev tailAt (c : Dev nD) (V : Valuation τ sig Val) (A : (w : Fin (pin pcs a p).W) → Buf Val (((pin pcs a p).win w).arr.view.loc (c.tc : Thread nD τ)))
    (opss : List (List (HloOp τ sig Val))) (b : Ref sig .tc) : Buf Val ((c.tc : Thread nD τ).loc b) :=
  StableHlo.after opss.flatten (withArrays (pin pcs a p).spec c V A) (Proc.devRef .tc b)

include kit₀ in
/-- The run of an @main that continues after the region with the host lines `opss`: on every core there are array
    contents that the relation allows at the region's end, from which the lines compute what every bypassing buffer
    holds; and every semaphore ends at zero. -/
theorem run_tail (rdat : (c : Dev nD) → RDat τ Val Unit ℕ (UR sig nD τ) ℕ (pin pcs a p) c)
    (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (hq : ∀ c w, ((pin pcs a p).spec w).isOut = false → (rdat c).q w = shareOf (pin pcs a p).spec w) (howed : ∀ c t, (rdat c).owed t = 0)
    (V₀ : Dev nD → Valuation τ sig Val) (opss : List (List (HloOp τ sig Val)))
    (hsub : ∀ ops ∈ opss, ∀ op ∈ ops, op.bufs ⊆ tailRefs sig (pcs p).pre (pin pcs a p).spec)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (pin pcs a p).spec w)))
    (hpf : ∀ c k, V₀ c (Proc.devRef .tc ((pcs p).pre.ref k)) = (a p).1 k)
    (hin : ∀ c, iprop(ΦA (pin pcs a p).spec c ∗ ΦT (pcs p).pre (a p).1 c) ⊢ (rdat c).Φ 0)
    (hout : ∀ c, (rdat c).Φ (Fin.last (pin pcs a p).N) ⊢ ΦA (pin pcs a p).spec c) :
    θ_run (Pipeline.defs pcs defs₀) (onTc main) (s₀ m g) fun r =>
      (∀ c, ∃ A, (∀ w, (rdat c).ArrAt w (pin pcs a p).N (A w)) ∧ ∀ b ∈ restRefsP sig (pcs p).pre (pin pcs a p).spec,
        r.2.mem ((c.tc : Thread nD τ).loc b) = tailAt pcs a p c (V₀ c) A opss b) ∧ r.2.sem = fun _ => 0 := by
  classical
  let rest := restRefsP sig (pcs p).pre (pin pcs a p).spec
  let V : (c : Dev nD) → (b : Ref sig .tc) → Buf Val ((c.tc : Thread nD τ).loc b) := fun c b => V₀ c (Proc.devRef .tc b)
  exact RDat.θ_run_region_pf_tail_quiescent pcs a (RDat.familyOf pcs a p rdat) () (kit₀.cellOf_inj a) p kit₀.win
    (OwnSemFacts.none (pin pcs a p).spec) kit₀.pre emb₁ defs₀ 𝒱₀ m g main
    (fun _ => chain (opss.map StableHlo.seq)) (fun c => by rw [RDat.familyOf_self]; exact hbody c)
    kit₀.block_pos kit₀.arr_whole kit₀.stage_whole (fun c t => by rw [RDat.familyOf_self]; exact howed c t)
    (G := fun _ => iprop(emp)) (u₀ := initOf (cells (pin pcs a) (kit₀.cellOf_inj a)) (launchToks (pin pcs a) (kit₀.cellOf_inj a)))
    (hu₀ := by
      iintro Hu; imodintro
      isplitl [Hu]
      · iapply (show (ownU _ : sProp 𝕄) ⊢ BI.own (emb₁ (initOf (cells (pin pcs a) (kit₀.cellOf_inj a)) (launchToks (pin pcs a) (kit₀.cellOf_inj a)))) from .rfl)
        iexact Hu
      iapply (show (BI.emp : sProp 𝕄) ⊢ bigSep Finset.univ (fun _ : Dev nD => (BI.emp : sProp 𝕄)) from by rw [BI.bigSep_emp_const])
      iempintro)
    (V := V) (hmain := hmain)
    (hsplit := fun c => by rw [RDat.familyOf_self]; exact (rdat c).arrays_split_shared kit₀.sharedIn kit₀.arr_whole (hq c) (V c) _ (hA c))
    (hpf := hpf)
    (X := fun c => iprop(∃ r, prngReg c r)) (Y := fun c => iprop(∃ r, prngReg c r))
    (Z := fun c => unscopedRestP (Ix := Unit) (Name := ℕ) (U := UR sig nD τ) (Lvl := ℕ) (pcs p).pre (pin pcs a p).spec c (V c))
    (Z' := fun c => iprop(∃ A : (w : Fin (pin pcs a p).W) → Buf Val (((pin pcs a p).win w).arr.view.loc (c.tc : Thread nD τ)),
      ⌜∀ w, (rdat c).ArrAt w (pin pcs a p).N (A w)⌝ ∗ unscopedRestP (Ix := Unit) (Name := ℕ) (U := UR sig nD τ) (Lvl := ℕ) (pcs p).pre (pin pcs a p).spec c
        (tailAt pcs a p c (V₀ c) A opss)))
    (hX := fun c => by
      iintro ⟨HU, -, -, Hp, -⟩; imodintro
      isplitl [Hp]; · iexists _; iexact Hp
      iexact HU)
    (hin := fun c => by
      rw [RDat.familyOf_self]
      refine Entails.trans ?_ (hin c)
      unfold ΦA ΦT; iintro ⟨Hp, Ht, Hr⟩
      isplitr [Ht]
      · isplitl [Hr] <;> iassumption
      · iexact Ht)
    (hout := fun c => by
      rw [RDat.familyOf_self]
      refine (hout c).trans ?_
      rw [ownSems0_none]; unfold ΦA
      iintro ⟨Hr, Hp⟩
      isplitl [Hp]; · iexact Hp
      isplitr; · iempintro
      iexact Hr)
    (htail := fun c Q' => by
      rw [RDat.familyOf_self]
      iintro ⟨Hk, Hb, Ha, HZ⟩
      ihave Ha' := (arraysAt_open pcs a p (rdat c)) $$ Ha
      icases Ha' with ⟨%A, %hA', Ha⟩
      have hB : (rdat c).arrays A = arrBufs (pin pcs a p).spec c (fun b => withArrays (pin pcs a p).spec c (V₀ c) A (Proc.devRef .tc b)) :=
        ((rdat c).arrBufs_eq_arrays kit₀.sharedIn kit₀.arr_whole (hq c) _ A fun w =>
          (withArrays_arr_shared (pin pcs a p).spec c (V₀ c) A ((rdat c).ArrAt_sharedIn kit₀.sharedIn (V₀ c) (hA c) (pin pcs a p).N A hA') w).symm).symm
      iapply (tail_seqs_bufs_b pcs defs₀ 𝒱₀ (pcs p).pre (pin pcs a p).spec c (V₀ c) A opss hsub hfresh hkeep Q')
      isplitl [Hk]
      · iintro ⟨Hb2, Ha2, Hu⟩
        iapply Hk
        isplitl [Hb2]; · iexact Hb2
        isplitl [Ha2]
        · iapply (arraysAt_close pcs a p (rdat c) A hA'); iapply (Entails.of_eq hB.symm); iexact Ha2
        iexists A
        isplitr
        · ipureintro; exact hA'
        · iexact Hu
      · isplitl [Hb]; · iexact Hb
        isplitl [Ha]; · iapply (Entails.of_eq hB); iexact Ha
        iexact HZ)
    (QY := fun c s => ∃ A, (∀ w, (rdat c).ArrAt w (pin pcs a p).N (A w)) ∧ ∀ b ∈ rest, s.mem ((c.tc : Thread nD τ).loc b) = tailAt pcs a p c (V₀ c) A opss b)
    (hY := fun c s' => by
      iintro ⟨-, HZ, HSI⟩
      icases HZ with ⟨%A, %hA', HZ⟩
      unfold unscopedRestP
      ihave HZ' := (pointsTo_read_all rest (fun b => (c.tc : Thread nD τ).loc b) (tailAt pcs a p c (V₀ c) A opss) s') $$ [HZ HSI]
      · isplitl [HZ] <;> iassumption
      icases HZ' with ⟨%hZ, HSI⟩
      imodintro
      isplitr
      · ipureintro; exact ⟨A, hA', hZ⟩
      · iexact HSI)
    (hQ := fun s h hz => ⟨fun c => (h c).2.2, hz⟩)

end Cert.Hand

end
-- ==== Proof.KernelIdealRun.lean ====
/- The idealized kernel's launch: the scratch buffers carry the projected rows, the scores and the statistics from one grid
   point to the next, and the array the region writes ends at the result computed from the arrays it finds. -/
module

public import proofs.«01_k».proof.Proof.State
public import proofs.«01_k».proof.Proof.LaunchTail
public import proofs.«01_k».proof.Proof.Gen.KernelIdeal.Frame
public import Idealize.ShloMosaic.Lib.Pipeline.DatRel
public import Idealize.ShloMosaic.Lib.Pipeline.ArrRel
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and their blocks -/

/-- The projected keys, padded in front. -/
abbrev keysOf (c : Dev nD) : Vec F S2080x768 .f32 := paddedRows (V m c main_call0_v1) (V m c main_call0_v27)
/-- The projected values, padded in front. -/
abbrev valuesOf (c : Dev nD) : Vec F S2080x768 .f32 := paddedRows (V m c main_call0_v2) (V m c main_call0_v35)
/-- The scores. -/
abbrev scoresOf (c : Dev nD) : Vec F S2048x384 .f32 := allScores (V m c main_call0_v0) (V m c main_call0_v19) (keysOf m c)
/-- The result. -/
abbrev resultOf (c : Dev nD) : Vec F S2048x768 .f32 := result (scoresOf m c) (valuesOf m c) (V m c main_call0_v43)

/-- The row windows of the first sweep. -/
theorem index_inputs : ∀ i : grid0.Coords, (i 0).val = 0 →
    cc0_transform_0 i = ![(i 1).val, 0] ∧ cc0_transform_1 i = ![(i 1).val, 0] ∧ cc0_transform_2 i = ![(i 1).val, 0] := by decide

/-- The weights' windows are on the whole array. -/
theorem index_weights : ∀ i : grid0.Coords,
    cc0_transform_3 i = ![0, 0] ∧ cc0_transform_4 i = ![0, 0] ∧ cc0_transform_5 i = ![0, 0] ∧ cc0_transform_6 i = ![0, 0] := by decide

/-- The result's window is on the point's block. -/
theorem index_result : ∀ i : grid0.Coords, cc0_transform_7 i = ![(i 1).val, 0] := by decide

/-- In the first sweep the first three windows are on the point's block of rows. -/
theorem iblk_0 (c : Dev nD) (t : Fin cfg0.N) (h : (grid0.coords t 0).val = 0) :
    iblk m c 0 t = rowsOf (grid0.coords t 1) (V m c main_call0_v0) := by
  funext y
  refine congrArg (V m c main_call0_v0) (funext fun a => Fin.ext ?_)
  have e := (index_inputs (grid0.coords t) h).1
  revert a
  refine Fin.forall_fin_two.mpr ⟨?_, ?_⟩
  · show cc0_transform_0 (grid0.coords t) 0 * 512 + 1 * (y 0).val = 512 * (grid0.coords t 1).val + (y 0).val
    rw [e]; show (grid0.coords t 1).val * 512 + 1 * (y 0).val = _; omega
  · show cc0_transform_0 (grid0.coords t) 1 * 768 + 1 * (y 1).val = (y 1).val
    rw [e]; show 0 * 768 + 1 * (y 1).val = _; omega

/-- The second window, likewise. -/
theorem iblk_1 (c : Dev nD) (t : Fin cfg0.N) (h : (grid0.coords t 0).val = 0) :
    iblk m c 1 t = rowsOf (grid0.coords t 1) (V m c main_call0_v1) := by
  funext y
  refine congrArg (V m c main_call0_v1) (funext fun a => Fin.ext ?_)
  have e := (index_inputs (grid0.coords t) h).2.1
  revert a
  refine Fin.forall_fin_two.mpr ⟨?_, ?_⟩
  · show cc0_transform_1 (grid0.coords t) 0 * 512 + 1 * (y 0).val = 512 * (grid0.coords t 1).val + (y 0).val
    rw [e]; show (grid0.coords t 1).val * 512 + 1 * (y 0).val = _; omega
  · show cc0_transform_1 (grid0.coords t) 1 * 768 + 1 * (y 1).val = (y 1).val
    rw [e]; show 0 * 768 + 1 * (y 1).val = _; omega

/-- The third window, likewise. -/
theorem iblk_2 (c : Dev nD) (t : Fin cfg0.N) (h : (grid0.coords t 0).val = 0) :
    iblk m c 2 t = rowsOf (grid0.coords t 1) (V m c main_call0_v2) := by
  funext y
  refine congrArg (V m c main_call0_v2) (funext fun a => Fin.ext ?_)
  have e := (index_inputs (grid0.coords t) h).2.2
  revert a
  refine Fin.forall_fin_two.mpr ⟨?_, ?_⟩
  · show cc0_transform_2 (grid0.coords t) 0 * 512 + 1 * (y 0).val = 512 * (grid0.coords t 1).val + (y 0).val
    rw [e]; show (grid0.coords t 1).val * 512 + 1 * (y 0).val = _; omega
  · show cc0_transform_2 (grid0.coords t) 1 * 768 + 1 * (y 1).val = (y 1).val
    rw [e]; show 0 * 768 + 1 * (y 1).val = _; omega

/-- The weights' windows are the whole arrays. -/
theorem whole_index {f : Fin 2 → ℕ} (hf : f = ![0, 0]) (y : S768x768.Idx) (a : Fin 2) :
    f a * S768x768.size a + 1 * (y a).val = (y a).val := by
  subst hf
  revert a
  refine Fin.forall_fin_two.mpr ⟨?_, ?_⟩
  · show 0 * 768 + 1 * (y 0).val = _; omega
  · show 0 * 768 + 1 * (y 1).val = _; omega

/-- The weights' windows hold the whole arrays. -/
theorem iblk_3 (c : Dev nD) (t : Fin cfg0.N) : iblk m c 3 t = V m c main_call0_v19 :=
  funext fun y => congrArg (V m c main_call0_v19) (funext fun a => Fin.ext (whole_index (index_weights (grid0.coords t)).1 y a))
theorem iblk_4 (c : Dev nD) (t : Fin cfg0.N) : iblk m c 4 t = V m c main_call0_v27 :=
  funext fun y => congrArg (V m c main_call0_v27) (funext fun a => Fin.ext (whole_index (index_weights (grid0.coords t)).2.1 y a))
theorem iblk_5 (c : Dev nD) (t : Fin cfg0.N) : iblk m c 5 t = V m c main_call0_v35 :=
  funext fun y => congrArg (V m c main_call0_v35) (funext fun a => Fin.ext (whole_index (index_weights (grid0.coords t)).2.2.1 y a))
theorem iblk_6 (c : Dev nD) (t : Fin cfg0.N) : iblk m c 6 t = V m c main_call0_v43 :=
  funext fun y => congrArg (V m c main_call0_v43) (funext fun a => Fin.ext (whole_index (index_weights (grid0.coords t)).2.2.2 y a))

/-- A point from its two coordinates. -/
theorem point_eq : ∀ t : Fin grid0.N, t.val = 4 * (grid0.coords t 0).val + (grid0.coords t 1).val := by decide

/-! ## The proof data -/

/-- The scratch buffers after `n` points. -/
def carried (c : Dev nD) (n : ℕ) : sProp 𝕄 :=
  iprop((∃ g0, ∃ g1, ∃ g2, ∃ g3, ⌜Inv (keysOf m c) (valuesOf m c) (scoresOf m c) n
      ((Memref.whole cc0_scratch0).view.read (Elt F) g0) ((Memref.whole cc0_scratch1).view.read (Elt F) g1)
      ((Memref.whole cc0_scratch2).view.read (Elt F) g2) ((Memref.whole cc0_scratch3).view.read (Elt F) g3)⌝
    ∗ scratch c g0 g1 g2 g3) ∗ (∃ r, prngReg c r))

/-- Only the result's window is held to a predicate. -/
abbrev marked : Fin 8 → Bool := fun w => w == 7

/-- In the second sweep the body leaves the result's block in the result's staging buffer. -/
def left (c : Dev nD) : (w : Fin cfg0.W) → Fin cfg0.N → ((cfg0.win w).block.Idx → Elt F (cfg0.win w).elt) → Prop
  | ⟨7, _⟩, t, X => (grid0.coords t 0).val ≠ 0 →
      X = resultRows (grid0.coords t 1) (scoresOf m c) (valuesOf m c) (V m c main_call0_v43)
  | _, _, _ => True

/-- The proof data: the arrays as the region finds them, each input's buffer at its block, the scratch buffers as carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ t := carried m c t.val
  q _ := fullShare
  owed _ := 0

/-- The arrays as the region finds them. -/
theorem A_eq (c : Dev nD) (w : Fin cfg0.W) : (dats m 0 c).A w = V m c (Pipeline.arrRef spec0 w) := by
  dsimp only [dats]

/-- What each input window holds after a point: its block, as before. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
/-- What each input window holds before a point: its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body obligation -/

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜((dats m 0 c).toRRel marked (left m c)).Finds 7 t Y⌝ ∗ owns (c : Thread nD τ) (st0_7 t) fullShare Y))

/-- What the body leaves at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜left m c 7 t X⌝ ∗ owns (c : Thread nD τ) (st0_7 t) fullShare X))

/-- The body at point `t` takes what it finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6,
    after_0, after_1, after_2, after_3, after_4, after_5, after_6]
  rw [show (dats m 0 c).Φ t.succ = carried m c (t.val + 1) from rfl, show (dats m 0 c).Φ t.castSucc = carried m c t.val from rfl,
    show (dats m 0 c).owesAt () t.succ = (dats m 0 c).owesAt () t.castSucc from rfl]
  unfold carried
  iintro ⟨⟨⟨%g0, %g1, %g2, %g3, %hinv, HS⟩, Hg⟩, HW, ⟨%d0, H0⟩, ⟨%d1, H1⟩, ⟨%d2, H2⟩, ⟨%d3, H3⟩, ⟨%d4, H4⟩, ⟨%d5, H5⟩, ⟨%d6, H6⟩, ⟨%Y, -, H7⟩⟩
  iapply (body_run c (grid0.coords t) _ _ _ _ _ _ _ _ _ _ _ _ _ _ _ _ _ _ _ _ _ _ _ g0 g1 g2 g3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists Y; iexact H7
  isplitl [HS]; · iexact HS
  iintro %g0' %g1' %g2' %g3' %d %hN ⟨H0, H1, H2, H3, H4, H5, H6, H7, HS⟩
  rw [iblk_3, iblk_4, iblk_5, iblk_6] at hN
  have hI := Inv.next (V m c main_call0_v0) (V m c main_call0_v1) (V m c main_call0_v2) (V m c main_call0_v19) (V m c main_call0_v27)
    (V m c main_call0_v35) (V m c main_call0_v43) (grid0.coords t) t.val (point_eq t) _ _ _ (iblk_0 m c t) (iblk_1 m c t) (iblk_2 m c t)
    _ _ _ _ _ _ _ _ _ hinv hN
  isplitl [HS Hg]
  · isplitl [HS]
    · iexists g0', g1', g2', g3'
      isplitr
      · ipureintro; exact hI.1
      · iexact HS
    · iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d
  isplitr
  · ipureintro; exact hI.2
  · iexact H7

/-- The kernel's row of the program's definitions. -/
theorem defs₀_row (t : Fin cfg0.N) :
    defs₀ (F := F) .tc cfg0.body (cfg0.bodyArgs t (cfg0.slots t)) = bodyAt0 t := by
  unfold defs₀; rw [Defs.onTc_tc]

/-- The body obligation at every grid point. -/
theorem body_obligation (c : Dev nD) :
    BodyObligationRel (dats (F := F) m 0 c) (defs₀ (F := F)) Variants.none () Set.univ marked (left m c) := fun t => by
  rw [bigSep_W0, bigSep_W0, defs₀_row]
  exact triple_restated (sound_body m c t) rfl .rfl fun _ => .rfl

end Cert.KernelIdeal.Hand

end
-- ==== Proof.KernelIdealResult.lean ====
/- The idealized kernel's run, with its result: every argument as launched, every semaphore at zero, and the result buffer
   at the value computed from the arrays the region finds. -/
module

public import proofs.«01_k».proof.Proof.KernelIdealRun

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]

variable (m : (ℓ : Loc nD τ sig) → Buf (Elt F) ℓ) (ρ : Dev nD → PrngReg)

/-- The relational proof data of the region. -/
abbrev rdat (c : Dev nD) : RDat τ (Elt F) Unit ℕ (UR sig nD τ) ℕ cfg0 c := (dats m 0 c).toRRel marked (left m c)

/-! ## The array the region writes -/

/-- The block of the result's array at a point, at coordinates. -/
theorem result_block (t : Fin cfg0.N) (y : S512x768.Idx) (a : Fin 2) :
    ((((cfg0.win 7).blk t).view.emb y : S2048x768.Idx) a).val = if a = 0 then 512 * (grid0.coords t 1).val + (y 0).val else (y 1).val := by
  have e := index_result (grid0.coords t)
  revert a
  refine Fin.forall_fin_two.mpr ⟨?_, ?_⟩
  · show cc0_transform_7 (grid0.coords t) 0 * 512 + 1 * (y 0).val = 512 * (grid0.coords t 1).val + (y 0).val
    rw [e]; show (grid0.coords t 1).val * 512 + 1 * (y 0).val = _; omega
  · show cc0_transform_7 (grid0.coords t) 1 * 768 + 1 * (y 1).val = (y 1).val
    rw [e]; show 0 * 768 + 1 * (y 1).val = _; omega

/-- Rows that a point of the second sweep has written hold the result. -/
theorem result_rows (c : Dev nD) : ∀ (n : ℕ), n ≤ 8 → ∀ G : Vec F S2048x768 .f32, (rdat m c).ArrAt 7 n G →
    ∀ y : S2048x768.Idx, 4 + (y 0).val / 512 < n → G y = resultOf m c y := by
  intro n
  induction n with
  | zero => intro _ G _ y hy; omega
  | succ n ih =>
    intro hn G hG y hy
    have hn' : n < cfg0.N := by rw [show cfg0.N = 8 from N_0]; omega
    rw [(rdat m c).ArrAt_succ 7 ⟨n, hn'⟩, if_pos (flush0_7 _)] at hG
    obtain ⟨G₀, X, hG₀, hX, rfl⟩ := hG
    have hX' := (dats m 0 c).toRRel_leaves (w := 7) rfl hX
    have hp := point_eq ⟨n, hn'⟩
    have h0 : (grid0.coords ⟨n, hn'⟩ 0).val < 2 := (grid0.coords ⟨n, hn'⟩ 0).isLt
    have h1 : (grid0.coords ⟨n, hn'⟩ 1).val < 4 := (grid0.coords ⟨n, hn'⟩ 1).isLt
    have hy0 : (y 0).val < 2048 := (y 0).isLt
    dsimp only at hp
    by_cases hb : n = 4 + (y 0).val / 512
    · let z : S512x768.Idx := ix2 (n0 := 512) (n1 := 768) ⟨(y 0).val % 512, Nat.mod_lt _ (by decide)⟩ (y 1)
      have hz : ((cfg0.win 7).blk ⟨n, hn'⟩).view.emb z = y := by
        funext a
        refine Fin.ext ((result_block ⟨n, hn'⟩ z a).trans ?_)
        revert a
        refine Fin.forall_fin_two.mpr ⟨?_, ?_⟩
        · show 512 * (grid0.coords ⟨n, hn'⟩ 1).val + (y 0).val % 512 = (y 0).val
          omega
        · rfl
      have hX'' : X = resultRows (grid0.coords ⟨n, hn'⟩ 1) (scoresOf m c) (valuesOf m c) (V m c main_call0_v43) := hX' (by omega)
      refine (congrArg _ hz.symm).trans ((View.write_emb_of_mem _ _ (Finset.mem_univ z)).trans ?_)
      show X z = _
      rw [hX'']
      have hbl : (grid0.coords ⟨n, hn'⟩ 1 : Fin 4) = (⟨(y 0).val / 512, (by omega : (y 0).val / 512 < 4)⟩ : Fin 4) := Fin.ext (by show (grid0.coords ⟨n, hn'⟩ 1).val = (y 0).val / 512; omega)
      exact congrArg (fun b => resultRows b (scoresOf m c) (valuesOf m c) (V m c main_call0_v43) z) hbl
    · refine (View.write_of_not_mem _ _ _ ?_).trans (ih (by omega) G₀ hG₀ y (by omega))
      intro hm
      obtain ⟨z, -, hz⟩ := Finset.mem_map.mp hm
      have hr := result_block ⟨n, hn'⟩ z 0
      rw [if_pos rfl] at hr
      have hr' : (y 0).val = 512 * (grid0.coords ⟨n, hn'⟩ 1).val + (z 0).val := (congrArg (fun i : S2048x768.Idx => (i 0).val) hz).symm.trans hr
      have hz0 : (z 0).val < 512 := (z 0).isLt
      omega

/-- The region leaves the result in its output array. -/
theorem result_array (c : Dev nD) (G : Vec F S2048x768 .f32) (h : (rdat m c).ArrAt 7 cfg0.N G) : G = resultOf m c := by
  rw [show cfg0.N = 8 from N_0] at h
  funext y
  have hy0 : (y 0).val < 2048 := (y 0).isLt
  exact result_rows m c 8 le_rfl G h y (by omega)

/-! ## The run -/

/-- What the program's result buffer ends at: the region's array with a leading axis of one. -/
def resultBuf (c : Dev nD) : Vec F S1x2048x768 .f32 := fun y => resultOf m c (ix2 (n0 := 2048) (n1 := 768) (y 1) (y 2))

/-- The core's buffers when the region ends with the arrays at `A`. -/
def endAt (c : Dev nD) (A : (w : Fin 8) → Buf (Elt F) ((spec0 w).arr.view.loc (c.tc : Thread nD τ))) : Valuation τ sig (Elt F) :=
  Pipeline.withArrays spec0 c (V0 m c) A

/-- The run, with every bypassing buffer as the last host line leaves it. -/
theorem run_arrays : θ_run defs (onTc (τ := τ) (main (F := F))) ⟨m, fun _ => 0, ρ⟩ (fun r => (∀ c : Dev nD,
      ∃ A : (w : Fin 8) → Buf (Elt F) ((spec0 w).arr.view.loc (c.tc : Thread nD τ)), (∀ w, (rdat m c).ArrAt w cfg0.N (A w))
        ∧ ∀ b ∈ Pipeline.restRefs sig spec0,
          r.2.mem ((c.tc : Thread nD τ).loc b) = StableHlo.after hostOps1 (endAt m c A) (Proc.devRef .tc b))
      ∧ r.2.sem = fun _ => 0) := by
  refine (θ_run defs _ _).mono ?_ (Cert.Hand.run_tail (fun q => (cfgs q).toPCfg) (fun q => (cfgs q).toPCfg_adm) 0 launch0.toP.to₀ defs₀
    Variants.none (rdat m) m ρ main (fun c => (body_obligation m c).toRRel)
    (fun c w hw => (rdat m c).q_eq_shareOf_of_share_full launch0.win.arr_inj ((dats m 0 c).share_full fun _ => rfl) w hw)
    (fun _ _ => rfl) (V0 m) [hostOps1] sfx_sub sfx_fresh sfx_keeps (hmain m Variants.none) (A_eq m) (fun _ k => k.elim0)
    ?_ ?_)
  · intro r h
    refine ⟨fun c => ?_, h.2⟩
    obtain ⟨A, hA, hb⟩ := h.1 c
    exact ⟨A, hA, fun b hm => hb b (Finset.mem_sdiff.mpr ⟨hm, fun h => by obtain ⟨k, -⟩ := Finset.mem_image.mp h; exact k.elim0⟩)⟩
  · intro c
    refine (show _ ⊢ Pipeline.ΦA spec0 c from by iintro ⟨H, -⟩; iexact H).trans ?_
    show Pipeline.ΦA spec0 c ⊢ carried m c 0
    unfold Pipeline.ΦA carried scratch
    rw [scopedRest0_eq]
    iintro ⟨⟨⟨%g0, H0⟩, ⟨%g1, H1⟩, ⟨%g2, H2⟩, ⟨%g3, H3⟩⟩, Hg⟩
    isplitr [Hg]
    · iexists g0, g1, g2, g3
      isplitr
      · ipureintro; exact Inv.start _ _ _ _
      · isplitl [H0]; · iexact H0
        isplitl [H1]; · iexact H1
        isplitl [H2]; · iexact H2
        iexact H3
    · iexact Hg
  · intro c
    show carried m c 8 ⊢ Pipeline.ΦA spec0 c
    unfold Pipeline.ΦA carried scratch
    rw [scopedRest0_eq]
    iintro ⟨⟨%g0, %g1, %g2, %g3, -, H0, H1, H2, H3⟩, Hg⟩
    isplitr [Hg]
    · isplitl [H0]; · iexists g0; iexact H0
      isplitl [H1]; · iexists g1; iexact H1
      isplitl [H2]; · iexists g2; iexact H2
      iexists g3; iexact H3
    · iexact Hg

/-- The last host line writes the result only. -/
theorem kept (c : Dev nD) (A) (b : Ref sig .tc) (h1 : ∀ w, (spec0 w).arr.view.ref ≠ b) (h2 : b ≠ main_v0) :
    StableHlo.after hostOps1 (endAt m c A) (Proc.devRef .tc b) = V m c b := by
  refine (StableHlo.after_of_forall_not_mem (b := Proc.devRef .tc b) _ _ ?_).trans
    (Pipeline.withArrays_of_ne spec0 c (V0 m c) A b fun w => h1 w)
  intro op hop
  simp only [hostOps1, List.mem_cons, List.mem_nil_iff, or_false] at hop
  rcases hop with rfl
  simp only [StableHlo.unary_writes, Finset.mem_singleton]
  exact StableHlo.devRef_ne_of_ne h2

/-- A leading axis of one. -/
theorem lead_eq (X : Vec F S2048x768 .f32) : broadcastInDim S1x2048x768 ![1, 2] bcast_S2048x768_S1x2048x768_1_2 X
    = fun y => X (ix2 (n0 := 2048) (n1 := 768) (y 1) (y 2)) := by
  funext y
  refine congrArg X (funext fun a => ?_)
  revert a
  exact Fin.forall_fin_two.mpr ⟨rfl, rfl⟩

/-- What the last host line computes. -/
theorem lead_result (W : Valuation τ sig (Elt F)) (X : Vec F S2048x768 .f32) (h : W (Proc.devRef .tc main_call0_v44) = X) :
    StableHlo.after hostOps1 W (Proc.devRef .tc main_v0)
      = broadcastInDim S1x2048x768 ![1, 2] bcast_S2048x768_S1x2048x768_1_2 X := by
  subst h
  simp only [hostOps1, StableHlo.after_cons, StableHlo.after_nil]
  exact StableHlo.unary_result main_call0_v44 main_v0 _ _ _ _

/-- The last host line leaves in the result buffer what it computes from the region's array. -/
theorem main_v0_end (c : Dev nD) (A) (hA : ∀ w, (rdat m c).ArrAt w cfg0.N (A w)) :
    StableHlo.after hostOps1 (endAt m c A) (Proc.devRef .tc main_v0) = resultBuf m c :=
  (lead_result _ _ ((Pipeline.withArrays_arr spec0 launch0.win.arr_inj c (V0 m c) A 7).trans (result_array m c (A 7) (hA 7)))).trans
    (lead_eq (resultOf m c))

/-- The run: the result buffer at the value computed from the arrays, every argument as launched, every semaphore at zero. -/
theorem run : θ_run defs (onTc (τ := τ) (main (F := F))) ⟨m, fun _ => 0, ρ⟩ (fun r => (∀ c : Dev nD,
      r.2.mem ((c.tc : Thread nD τ).loc main_v0) = resultBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono ?_ (run_arrays m ρ)
  intro r h
  refine ⟨fun c => ?_, h.2⟩
  obtain ⟨A, hA, hb⟩ := h.1 c
  have keep : ∀ b : Ref sig .tc, b.isScoped = false → (∀ w, (spec0 w).arr.view.ref ≠ b) → b ≠ main_v0 →
      r.2.mem ((c.tc : Thread nD τ).loc b) = V m c b := fun b h0 h1 h2 =>
    (hb b (Pipeline.mem_restRefs_of b h0 h1)).trans (kept m c A b h1 h2)
  exact ⟨(hb main_v0 (Pipeline.mem_restRefs_of main_v0 (by decide) (by decide))).trans (main_v0_end m c A hA),
    (keep main_arg0 (by decide) (by decide) (by decide)).trans (V_main_arg0 m c),
    (keep main_arg1 (by decide) (by decide) (by decide)).trans (V_main_arg1 m c),
    (keep main_arg2 (by decide) (by decide) (by decide)).trans (V_main_arg2 m c),
    (keep main_arg3 (by decide) (by decide) (by decide)).trans (V_main_arg3 m c),
    (keep main_arg4 (by decide) (by decide) (by decide)).trans (V_main_arg4 m c),
    (keep main_arg5 (by decide) (by decide) (by decide)).trans (V_main_arg5 m c),
    (keep main_arg6 (by decide) (by decide) (by decide)).trans (V_main_arg6 m c)⟩

end Cert.KernelIdeal.Hand

end
-- ==== Proof.KernelIdealAt.lean ====
/- The vectors the kernel stores, read at an index over the extended reals. -/
module

public import proofs.«01_k».proof.Proof.State
public import Idealize.ShloMosaic.Lib.Pointwise

@[expose] public section

set_option maxRecDepth 16384

noncomputable section

namespace Cert.KernelIdeal.Hand

open Cert.KernelIdeal.Gen
open Idealize.ShloMosaic Idealize.ShloMosaic.Pointwise

/-- A projection of the keys or values: a row times a column of the weights. -/
theorem proj_at (x : Vec Ideal S512x768 .f32) (wt : Vec Ideal S768x768 .f32) (r : Fin 512) (k : Fin 768) :
    k0_pay6 x wt (ix2 r k) = ∑ k' : Fin 768, x (ix2 r k') * wt (ix2 k' k) := by
  pointwise [k0_pay6]

/-- The constant minus infinity. -/
theorem ofBits_neg_inf : Ideal.ofBits .f32 0xFF800000#32 = ⊥ := by simp [Ideal.ofBits, Ideal.ieee]

/-! ## Sums over lanes -/

/-- A sum over `a * b` indices, row by row. -/
theorem sum_rows {M : Type} [AddCommMonoid M] (n a b : ℕ) (h : n = a * b) (f : Fin n → M) :
    ∑ x, f x = ∑ i : Fin a, ∑ j : Fin b, f ⟨b * i.val + j.val, by
      have := i.isLt; have := j.isLt; subst h
      calc b * i.val + j.val < b * i.val + b := by omega
        _ = b * (i.val + 1) := by ring
        _ ≤ b * a := Nat.mul_le_mul_left _ (by omega)
        _ = a * b := Nat.mul_comm _ _⟩ := by
  subst h
  rw [← finProdFinEquiv.sum_comp, Fintype.sum_prod_type]
  refine Finset.sum_congr rfl fun i _ => Finset.sum_congr rfl fun j _ => congrArg f (Fin.ext ?_)
  show j.val + b * i.val = b * i.val + j.val
  omega

/-- The four lanes folded onto lane `e`. -/
abbrev fold4 (f : Fin 768 → EReal) (e : Fin 192) : EReal :=
  f ⟨e.val, by have := e.isLt; omega⟩ + f ⟨384 + e.val, by have := e.isLt; omega⟩
    + (f ⟨192 + e.val, by have := e.isLt; omega⟩ + f ⟨384 + (192 + e.val), by have := e.isLt; omega⟩)

/-- The folded lanes picked for one position and head sum to that head's 64 lanes. -/
theorem sum_picked (f : Fin 768 → EReal) (G : Fin 4 → Fin 192 → EReal) (h : ℕ) (hh : h < 12) (p : Fin 4) (hG : ∀ e, G p e = fold4 f e) :
    (∑ x : Fin 768, if x.val % 12 = h ∧ x.val / 192 = p.val then
        G ⟨x.val / 192, by have := x.isLt; omega⟩ ⟨x.val % 192, Nat.mod_lt _ (by decide)⟩ else 0)
      = ∑ d : Fin 64, f ⟨12 * d.val + h, by have := d.isLt; omega⟩ := by
  rw [sum_rows 768 4 192 rfl, Finset.sum_eq_single p]
  · rw [sum_rows 192 16 12 rfl, sum_rows 64 4 16 rfl, Fin.sum_univ_four, ← Finset.sum_add_distrib, ← Finset.sum_add_distrib,
      ← Finset.sum_add_distrib]
    refine Finset.sum_congr rfl fun d _ => ?_
    have hd := d.isLt
    have hp := p.isLt
    rw [Finset.sum_eq_single (⟨h, hh⟩ : Fin 12)]
    · have e1 : (⟨(192 * p.val + (12 * d.val + h)) / 192, by omega⟩ : Fin 4) = p := Fin.ext (by dsimp only; omega)
      have e2 : (⟨(192 * p.val + (12 * d.val + h)) % 192, by omega⟩ : Fin 192) = ⟨12 * d.val + h, by omega⟩ := Fin.ext (by dsimp only; omega)
      dsimp only
      rw [if_pos ⟨by omega, by omega⟩, e1, e2, hG]
      unfold fold4
      dsimp only
      have s0 : (⟨12 * (16 * (0 : Fin 4).val + d.val) + h, by show 12 * (16 * 0 + d.val) + h < 768; omega⟩ : Fin 768) = ⟨12 * d.val + h, by omega⟩ := Fin.ext (by show 12 * (16 * 0 + d.val) + h = 12 * d.val + h; omega)
      have s1 : (⟨12 * (16 * (1 : Fin 4).val + d.val) + h, by show 12 * (16 * 1 + d.val) + h < 768; omega⟩ : Fin 768) = ⟨192 + (12 * d.val + h), by omega⟩ := Fin.ext (by show 12 * (16 * 1 + d.val) + h = 192 + (12 * d.val + h); omega)
      have s2 : (⟨12 * (16 * (2 : Fin 4).val + d.val) + h, by show 12 * (16 * 2 + d.val) + h < 768; omega⟩ : Fin 768) = ⟨384 + (12 * d.val + h), by omega⟩ := Fin.ext (by show 12 * (16 * 2 + d.val) + h = 384 + (12 * d.val + h); omega)
      have s3 : (⟨12 * (16 * (3 : Fin 4).val + d.val) + h, by show 12 * (16 * 3 + d.val) + h < 768; omega⟩ : Fin 768) = ⟨384 + (192 + (12 * d.val + h)), by omega⟩ := Fin.ext (by show 12 * (16 * 3 + d.val) + h = 384 + (192 + (12 * d.val + h)); omega)
      rw [s0, s1, s2, s3]
      abel
    · intro j _ hj
      have hj' : j.val ≠ h := fun e => hj (Fin.ext e)
      have := j.isLt
      dsimp only
      rw [if_neg (fun hc => hj' (by omega))]
    · intro hn; exact absurd (Finset.mem_univ _) hn
  · intro q _ hq
    have hq' : q.val ≠ p.val := fun e => hq (Fin.ext e)
    refine Finset.sum_eq_zero fun e _ => ?_
    have := e.isLt
    dsimp only
    rw [if_neg (fun hc => hq' (by omega))]
  · intro hn; exact absurd (Finset.mem_univ _) hn

/-! ## The scores -/

/-- The products of a row of queries with a row of keys, folded. -/
theorem folded_at (o : ℕ) (h : o ≤ 32) (qb : FVec Ideal S512x768 .f32) (kw : Vec Ideal S544x768 .f32) (r : Fin 512) (e : Fin 192) :
    folded o h qb kw (ix2 r e)
      = fold4 (fun c => qb (ix2 r c) * kw (ix2 ⟨o + r.val, by have := r.isLt; omega⟩ c)) e := by
  unfold fold4
  pointwise [folded]

/-- Equal places read equal entries. -/
theorem folded_congr {o o' : ℕ} {h : o ≤ 32} {h' : o' ≤ 32} (qb : FVec Ideal S512x768 .f32) (kw : Vec Ideal S544x768 .f32) (r : Fin 512)
    {e e' : Fin 192} (ho : o = o') (he : e.val = e'.val) : folded o h qb kw (ix2 r e) = folded o' h' qb kw (ix2 r e') := by
  subst ho
  rw [Fin.ext he]

/-- A word's remainder by twelve, as the kernel computes it. -/
def rem12 (a : BitVec 32) : BitVec 32 :=
  let b : BitVec 32 := Scalar.select (Scalar.cmpi CmpIPredicate.eq 12#32 0#32) 1#32 12#32
  let r := IntOp.remsi ArithUnit.vector a b
  Scalar.select (IntOp.andi (IntOp.xori (IntOp.cmpi CmpIPredicate.slt r 0#32) (Scalar.cmpi CmpIPredicate.slt b 0#32))
    (IntOp.cmpi CmpIPredicate.ne r 0#32)) (IntOp.addi r b) r

/-- A word's quotient by `b`, rounded down, as the kernel computes it. -/
def floorDiv (a b : BitVec 32) : BitVec 32 :=
  Scalar.select
    (IntOp.andi
      (IntOp.cmpi CmpIPredicate.ne
        (IntOp.subi (BitVec.setWidth 32 (IntOp.cmpi CmpIPredicate.sgt a 0#32)) (BitVec.setWidth 32 (IntOp.cmpi CmpIPredicate.slt a 0#32)))
        (Scalar.subi (Scalar.extui (Scalar.cmpi CmpIPredicate.sgt b 0#32)) (Scalar.extui (Scalar.cmpi CmpIPredicate.slt b 0#32))))
      (IntOp.cmpi CmpIPredicate.ne (IntOp.remsi ArithUnit.vector a b) 0#32))
    (IntOp.subi (IntOp.divsi ArithUnit.vector a b) 1#32) (IntOp.divsi ArithUnit.vector a b)

/-- The words of a lane's remainder by twelve. -/
theorem rem12_eq : ∀ x : Fin 768, rem12 (BitVec.ofNat 32 x.val) = BitVec.ofNat 32 (x.val % 12) := by decide +kernel
/-- The words of a lane's quotient by 192. -/
theorem floorDiv_192 : ∀ x : Fin 768, floorDiv (BitVec.ofNat 32 x.val) 192#32 = BitVec.ofNat 32 (x.val / 192) := by decide +kernel
/-- The words of a column's quotient by twelve. -/
theorem floorDiv_12 : ∀ x : Fin 48, floorDiv (BitVec.ofNat 32 x.val) 12#32 = BitVec.ofNat 32 (x.val / 12) := by decide +kernel
/-- The two comparisons of a lane and a column hold together exactly when head and position agree. -/
theorem both_eq : ∀ (a b : Fin 12) (p q : Fin 4),
    IntOp.andi (IntOp.cmpi CmpIPredicate.eq (BitVec.ofNat 32 a.val) (BitVec.ofNat 32 b.val))
      (IntOp.cmpi CmpIPredicate.eq (BitVec.ofNat 32 p.val) (BitVec.ofNat 32 q.val))
    = if a.val = b.val ∧ p.val = q.val then 1#1 else 0#1 := by decide +kernel

/-- The summing matrix has a one where the lane's head and position are the column's. -/
theorem headSum_at (x : Fin 768) (k : Fin 48) :
    headSum (F := Ideal) (ix2 x k) = if x.val % 12 = k.val % 12 ∧ x.val / 192 = k.val / 12 then 1 else 0 := by
  have e : headSum (F := Ideal) (ix2 x k) = Scalar.select (IntOp.andi
      (IntOp.cmpi CmpIPredicate.eq (rem12 (BitVec.ofNat 32 x.val)) (rem12 (BitVec.ofNat 32 k.val)))
      (IntOp.cmpi CmpIPredicate.eq (floorDiv (BitVec.ofNat 32 x.val) 192#32) (floorDiv (BitVec.ofNat 32 k.val) 12#32)))
      (1 : EReal) (0 : EReal) := by
    unfold headSum
    pointwise [k0_pay11, k0_pay8, k0_pay9, k0_pay10]
    rfl
  have hx := x.isLt
  have hk := k.isLt
  rw [e, rem12_eq x, rem12_eq ⟨k.val, by omega⟩, floorDiv_192 x, floorDiv_12 k]
  have hb := both_eq ⟨x.val % 12, by omega⟩ ⟨k.val % 12, by omega⟩ ⟨x.val / 192, by omega⟩ ⟨k.val / 12, by omega⟩
  dsimp only at hb ⊢
  rw [hb]
  split_ifs <;> rfl

/-- A column's position among the group's four. -/
theorem colPos_at (r : Fin 512) (k : Fin 48) : colPos (ix2 r k) = BitVec.ofNat 32 (k.val / 12) := by
  refine Eq.trans ?_ (floorDiv_12 k)
  unfold colPos
  pointwise [k0_pay12]
  rfl

/-- Twelve columns repeated read at a lane. -/
theorem tiled_at (x : FVec Ideal S512x12 .f32) (r : Fin 512) (k : Fin 384) :
    tiled x (ix2 r k) = x (ix2 r ⟨k.val % 12, Nat.mod_lt _ (by decide)⟩) := by
  have hk := k.isLt
  pointwise [tiled]
  split_ifs <;> exact congrArg (fun a => x (ix2 r a)) (Fin.ext (by dsimp only; omega))

/-- A select on one. -/
theorem select_one {α : Type} (a b : α) : Scalar.select 1#1 a b = a := rfl
/-- A select on zero. -/
theorem select_zero {α : Type} (a b : α) : Scalar.select 0#1 a b = b := rfl

/-- The comparison that masks the places before the sequence. -/
theorem back_31 : ∀ n : Fin 2112, IntOp.cmpi CmpIPredicate.sge (IntOp.subi (BitVec.ofNat 32 n.val) 31#32) 0#32
    = if 31 ≤ n.val then 1#1 else 0#1 := by decide +kernel

/-- A position at or after the start of the sequence. -/
theorem valid_eq (b : Fin 4) (d : ℕ) (hd : d + 4 ≤ 32) (r : Fin 512) (p : ℕ) (hp : p < 4) :
    IntOp.cmpi CmpIPredicate.sge (IntOp.subi (IntOp.addi (IntOp.addi (Scalar.muli (BitVec.ofNat 32 b.val) 512#32) (BitVec.ofNat 32 r.val))
        (IntOp.addi (BitVec.ofNat 32 d) (BitVec.ofNat 32 p))) 31#32) 0#32
      = if 31 ≤ 512 * b.val + r.val + d + p then 1#1 else 0#1 := by
  have hb := b.isLt
  have hr := r.isLt
  have e : IntOp.addi (IntOp.addi (Scalar.muli (BitVec.ofNat 32 b.val) 512#32) (BitVec.ofNat 32 r.val))
        (IntOp.addi (BitVec.ofNat 32 d) (BitVec.ofNat 32 p)) = BitVec.ofNat 32 (512 * b.val + r.val + d + p) := by
    show BitVec.ofNat 32 b.val * 512#32 + BitVec.ofNat 32 r.val + (BitVec.ofNat 32 d + BitVec.ofNat 32 p) = _
    apply BitVec.eq_of_toNat_eq
    simp only [BitVec.toNat_add, BitVec.toNat_mul, BitVec.toNat_ofNat]
    omega
  rw [e]
  exact back_31 ⟨512 * b.val + r.val + d + p, by omega⟩

/-- A group of scores at a row and a column: the head's products summed, or minus infinity before the sequence. -/
theorem scoreGroup_at (b : Fin 4) (d : ℕ) (hd : d + 4 ≤ 32) (qb : FVec Ideal S512x768 .f32) (kw : Vec Ideal S544x768 .f32) (r : Fin 512) (k : Fin 48) :
    scoreGroup (BitVec.ofNat 32 b.val) d hd qb kw (ix2 r k) =
      if 31 ≤ 512 * b.val + r.val + d + k.val / 12 then
        ∑ l : Fin 64, qb (ix2 r ⟨12 * l.val + k.val % 12, by have := l.isLt; omega⟩)
          * kw (ix2 ⟨d + k.val / 12 + 1 + r.val, by have := k.isLt; have := r.isLt; omega⟩ ⟨12 * l.val + k.val % 12, by have := l.isLt; omega⟩)
      else ⊥ := by
  have hk := k.isLt
  have hr := r.isLt
  pointwise [scoreGroup]
  rw [colPos_at, valid_eq b d hd r (k.val / 12) (by omega), ofBits_neg_inf]
  have hsum := sum_picked
    (fun c => qb (ix2 r c) * kw (ix2 ⟨d + k.val / 12 + 1 + r.val, by omega⟩ c))
    (fun p e => folded (d + p.val + 1) (by have := p.isLt; omega) qb kw (ix2 r e)) (k.val % 12) (by omega) ⟨k.val / 12, by omega⟩
    (fun e => folded_at _ _ _ _ _ _)
  by_cases hv : 31 ≤ 512 * b.val + r.val + d + k.val / 12
  · rw [if_pos hv, if_pos hv, select_one]
    refine Eq.trans (Finset.sum_congr rfl fun x _ => ?_) hsum
    rw [headSum_at]
    have hx := x.isLt
    dsimp only
    by_cases hc : x.val % 12 = k.val % 12 ∧ x.val / 192 = k.val / 12
    · rw [if_pos hc, if_pos hc]
      refine (mul_one _).trans ?_
      split_ifs with h0 h1 h2
      all_goals exact folded_congr _ _ _ (by omega) (by dsimp only; omega)
    · rw [if_neg hc, if_neg hc]
      exact mul_zero _
  · rw [if_neg hv, if_neg hv, select_zero]

/-- The scores of one block at a row and a column. -/
theorem blockScores_at (b : Fin 4) (qb : FVec Ideal S512x768 .f32) (kw : Vec Ideal S544x768 .f32) (r : Fin 512) (k : Fin 384) :
    blockScores b qb kw r k =
      if 31 ≤ 512 * b.val + r.val + k.val / 12 then
        ∑ l : Fin 64, qb (ix2 r ⟨12 * l.val + k.val % 12, by have := l.isLt; omega⟩)
          * kw (ix2 ⟨k.val / 12 + 1 + r.val, by have := k.isLt; have := r.isLt; omega⟩ ⟨12 * l.val + k.val % 12, by have := l.isLt; omega⟩)
      else ⊥ := by
  have hk := k.isLt
  unfold blockScores
  rw [scoreGroup_at]
  have e1 : k.val % 48 % 12 = k.val % 12 := by omega
  have e2 : 4 * (k.val / 48) + k.val % 48 / 12 = k.val / 12 := by omega
  dsimp only
  simp only [e1, e2, Nat.add_assoc]

/-! ## The statistics -/

/-- Each column's maximum. -/
theorem maxima_at (S : Vec Ideal S2048x384 .f32) (k : Fin 384) :
    k0_pay61 S (ix2 0 k) = Finset.univ.fold max ⊥ (fun i : Fin 2048 => S (ix2 i k)) := by
  rw [← ofBits_neg_inf]
  pointwise [k0_pay61, k0_pay60]

/-- Each column's sum of exponentials. -/
theorem sums_at (S : Vec Ideal S2048x384 .f32) (k : Fin 384) :
    k0_pay62 S (ix2 0 k) = ∑ i : Fin 2048, Ideal.exp (S (ix2 i k) - Finset.univ.fold max ⊥ (fun i : Fin 2048 => S (ix2 i k))) := by
  rw [← ofBits_neg_inf]
  pointwise [k0_pay62, k0_pay60]

/-- A weight. -/
theorem weight_at (m z : Vec Ideal S1x384 .f32) (s : Vec Ideal S512x384 .f32) (r : Fin 512) (k : Fin 384) :
    k0_pay63 m z s (ix2 r k) = Ideal.div (Ideal.exp (s (ix2 r k) - m (ix2 0 k))) (z (ix2 0 k)) := by
  pointwise [k0_pay63]

/-! ## The weighted sum -/

/-- The first `n` positions' weights times values, on a lane. -/
theorem wsum_at (o : ℕ) (ho : S512x768.Slices ![0, o] S512x384) (ho' : o + 384 ≤ 768) (w : FVec Ideal S512x384 .f32) (v : Vec Ideal S544x768 .f32) (r : Fin 512)
    (k : Fin 384) : ∀ (n : ℕ) (hn : n ≤ 32), wsum o ho w v n hn (ix2 r k)
      = ∑ d : Fin n, w (ix2 r ⟨12 * d.val + k.val % 12, by have := d.isLt; omega⟩)
          * v (ix2 ⟨d.val + 1 + r.val, by have := d.isLt; have := r.isLt; omega⟩ ⟨o + k.val, by have := k.isLt; omega⟩)
  | 0, _ => by
    unfold wsum
    pointwise
    exact (Fin.sum_univ_zero _).symm
  | n + 1, hn => by
    have hr := r.isLt
    have hk := k.isLt
    refine Eq.trans ?_ (Fin.sum_univ_castSucc _).symm
    refine congrArg₂ (· + ·) (wsum_at o ho ho' w v r k n (Nat.le_of_succ_le hn)) ?_
    show tiled (extractStridedSlice S512x12 ![0, 12 * n] w (slices_cols hn)) (ix2 r k)
      * extractStridedSlice S512x384 ![0, o] (extractStridedSlice S512x768 ![n + 1, 0] v (slices_rows hn)) ho (ix2 r k) = _
    rw [tiled_at]
    pointwise
    rfl

/-- A block of the result. -/
theorem outBlock_at (w : FVec Ideal S512x384 .f32) (v : Vec Ideal S544x768 .f32) (wo : Vec Ideal S768x768 .f32) (r : Fin 512) (o : Fin 768) :
    outBlock w v wo (ix2 r o) = ∑ c : Fin 768, (∑ d : Fin 32, w (ix2 r ⟨12 * d.val + c.val % 12, by have := d.isLt; omega⟩)
      * v (ix2 ⟨d.val + 1 + r.val, by have := d.isLt; have := r.isLt; omega⟩ c)) * wo (ix2 c o) := by
  pointwise [outBlock]
  refine Eq.trans ?_ (sum_rows 768 2 384 rfl _).symm
  rw [Fin.sum_univ_two]
  refine congrArg₂ (· + ·) (Finset.sum_congr rfl fun x _ => ?_) (Finset.sum_congr rfl fun x _ => ?_)
  · rw [wsum_at 0 _ (by decide)]
    have e : (⟨384 * (0 : Fin 2).val + x.val, by have := x.isLt; show 384 * 0 + x.val < 768; omega⟩ : Fin 768) = ⟨x.val, by have := x.isLt; omega⟩ :=
      Fin.ext (by show 384 * 0 + x.val = x.val; omega)
    rw [e]
    simp only [Nat.zero_add]
  · rw [wsum_at 384 _ (by decide)]
    have e : (⟨384 * (1 : Fin 2).val + x.val, by have := x.isLt; show 384 * 1 + x.val < 768; omega⟩ : Fin 768) = ⟨384 + x.val, by have := x.isLt; omega⟩ :=
      Fin.ext (by show 384 * 1 + x.val = 384 + x.val; omega)
    have e12 : (384 + x.val) % 12 = x.val % 12 := by omega
    rw [e]
    simp only [e12]

end Cert.KernelIdeal.Hand

end
-- ==== Proof.HostAt.lean ====
/- The arrays the kernel's launch finds, read at an index over the extended reals. -/
module

public import proofs.«01_k».proof.Proof.Gen.KernelIdeal.Frame
public import Idealize.ShloMosaic.Lib.Pointwise
public import Idealize.ShloMosaic.Lib.StableHlo.ReadAt

@[expose] public section

set_option maxRecDepth 16384

noncomputable section

namespace Cert.KernelIdeal.Hand

open Cert.KernelIdeal.Gen
open Idealize.ShloMosaic Idealize.ShloMosaic.TcCoe Idealize.ShloMosaic.Pointwise

/-! ## Picked columns and rows -/

/-- Columns picked by a vector of places. -/
theorem columns_at {α : Type} (X : S768x768.Idx → α) (idx : IVec S768x1 32) (r k : Fin 768) (n : Fin 768) (h : (idx (ix2 k 0)).toInt = n.val) :
    Host.gather gather_S768x768_S768x1_S768x768_0_1_n_n_1_1_7681 X idx (ix2 r k) = X (ix2 r n) := by
  unfold Host.gather
  refine congrArg X (funext fun a => Fin.ext ?_)
  match a with
  | ⟨0, _⟩ => exact Nat.zero_add _
  | ⟨1, _⟩ =>
    have e : (gather_S768x768_S768x1_S768x768_0_1_n_n_1_1_7681.siIdx (ix2 r k) ⟨0, by decide⟩) = ix2 k 0 := by
      funext b
      match b with
      | ⟨0, _⟩ => rfl
      | ⟨1, _⟩ => rfl
    show min (idx (gather_S768x768_S768x1_S768x768_0_1_n_n_1_1_7681.siIdx (ix2 r k) ⟨0, by decide⟩)).toInt.toNat (768 - 1) + 0 + 0 = n.val
    have := n.isLt
    rw [e, h]
    omega

/-- Rows picked by a vector of places. -/
theorem rows_at {α : Type} (X : S768x768.Idx → α) (idx : IVec S768x1 32) (k r : Fin 768) (n : Fin 768) (h : (idx (ix2 k 0)).toInt = n.val) :
    Host.gather gather_S768x768_S768x1_S768x768_1_0_n_n_0_1_1768 X idx (ix2 k r) = X (ix2 n r) := by
  unfold Host.gather
  refine congrArg X (funext fun a => Fin.ext ?_)
  match a with
  | ⟨0, _⟩ =>
    have e : (gather_S768x768_S768x1_S768x768_1_0_n_n_0_1_1768.siIdx (ix2 k r) ⟨0, by decide⟩) = ix2 k 0 := by
      funext b
      match b with
      | ⟨0, _⟩ => rfl
      | ⟨1, _⟩ => rfl
    show min (idx (gather_S768x768_S768x1_S768x768_1_0_n_n_0_1_1768.siIdx (ix2 k r) ⟨0, by decide⟩)).toInt.toNat (768 - 1) + 0 + 0 = n.val
    have := n.isLt
    rw [e, h]
    omega
  | ⟨1, _⟩ => exact Nat.zero_add _

/-- The lane's place in the head-major order: the kernel's lane `12 * l + h` is the reference's lane `64 * h + l`. -/
def spot (k : Fin 768) : Fin 768 := ⟨(k.val % 12) * 64 + k.val / 12, by have := k.isLt; omega⟩

variable (m : (ℓ : Loc nD τ sig) → Buf (Elt Ideal) ℓ)

/-! ## The arguments -/

/-- The queries. -/
abbrev argQ (c : Dev nD) : Vec Ideal S1x2048x768 .f32 := m ((c.tc : Thread nD τ).loc main_arg0)
/-- The keys. -/
abbrev argK (c : Dev nD) : Vec Ideal S1x2048x768 .f32 := m ((c.tc : Thread nD τ).loc main_arg1)
/-- The values. -/
abbrev argV (c : Dev nD) : Vec Ideal S1x2048x768 .f32 := m ((c.tc : Thread nD τ).loc main_arg2)
/-- The queries' weights. -/
abbrev argWq (c : Dev nD) : Vec Ideal S768x768 .f32 := m ((c.tc : Thread nD τ).loc main_arg3)
/-- The keys' weights. -/
abbrev argWk (c : Dev nD) : Vec Ideal S768x768 .f32 := m ((c.tc : Thread nD τ).loc main_arg4)
/-- The values' weights. -/
abbrev argWv (c : Dev nD) : Vec Ideal S768x768 .f32 := m ((c.tc : Thread nD τ).loc main_arg5)
/-- The output's weights. -/
abbrev argWo (c : Dev nD) : Vec Ideal S768x768 .f32 := m ((c.tc : Thread nD τ).loc main_arg6)

/-! ## The arrays -/

/-- The first array holds the queries. -/
theorem v0_at (c : Dev nD) (r : Fin 2048) (k : Fin 768) : V m c main_call0_v0 (ix2 r k) = argQ m c (ix3 0 r k) := by
  unfold V
  after_reads_at

/-- The second array holds the keys. -/
theorem v1_at (c : Dev nD) (r : Fin 2048) (k : Fin 768) : V m c main_call0_v1 (ix2 r k) = argK m c (ix3 0 r k) := by
  unfold V
  after_reads_at

/-- The third array holds the values. -/
theorem v2_at (c : Dev nD) (r : Fin 2048) (k : Fin 768) : V m c main_call0_v2 (ix2 r k) = argV m c (ix3 0 r k) := by
  unfold V
  after_reads_at

/-- The fourth holds the queries' weights, transposed, in the kernel's order of lanes, an eighth of them. -/
theorem v19_at (c : Dev nD) (k' k : Fin 768) : V m c main_call0_v19 (ix2 k' k) = argWq m c (ix2 (spot k) k') * Ideal.ofBits .f32 0x3E000000#32 := by
  unfold V
  after_reads_at
  rw [columns_at _ _ _ _ (spot k) ?_]
  · pointwise
  · pointwise
    revert k
    decide +kernel

/-- The fifth holds the keys' weights, transposed, in the kernel's order of lanes. -/
theorem v27_at (c : Dev nD) (k' k : Fin 768) : V m c main_call0_v27 (ix2 k' k) = argWk m c (ix2 (spot k) k') := by
  unfold V
  after_reads_at
  rw [columns_at _ _ _ _ (spot k) ?_]
  · pointwise
  · pointwise
    revert k
    decide +kernel

/-- The sixth holds the values' weights, transposed, in the kernel's order of lanes. -/
theorem v35_at (c : Dev nD) (k' k : Fin 768) : V m c main_call0_v35 (ix2 k' k) = argWv m c (ix2 (spot k) k') := by
  unfold V
  after_reads_at
  rw [columns_at _ _ _ _ (spot k) ?_]
  · pointwise
  · pointwise
    revert k
    decide +kernel

/-- The seventh holds the output's weights, transposed, its rows in the kernel's order of lanes. -/
theorem v43_at (c : Dev nD) (k o : Fin 768) : V m c main_call0_v43 (ix2 k o) = argWo m c (ix2 o (spot k)) := by
  unfold V
  after_reads_at
  rw [rows_at _ _ _ _ (spot k) ?_]
  · pointwise
  · pointwise
    revert k
    decide +kernel

end Cert.KernelIdeal.Hand

end
-- ==== Proof.Softmax.lean ====
/- Facts about sums, scaling and exponentials of extended reals. -/
module

public import Idealize.ShloMosaic.Lib.Pointwise

@[expose] public section

noncomputable section

namespace Cert.Hand

open Idealize.ShloMosaic

/-- The constant one eighth. -/
theorem ofBits_eighth : Ideal.ofBits .f32 0x3E000000#32 = ((1 / 8 : ℝ) : EReal) := by
  simp [Ideal.ofBits, Ideal.ieee]
  rw [← EReal.coe_mul]
  norm_num

/-- The constant eight. -/
theorem ofBits_eight : Ideal.ofBits .f32 0x41000000#32 = ((8 : ℝ) : EReal) := by
  simp [Ideal.ofBits, Ideal.ieee]
  rw [← EReal.coe_mul]
  norm_num

/-- Dividing by eight is scaling by an eighth. -/
theorem div_eight (x : EReal) : Ideal.div x (Ideal.ofBits .f32 0x41000000#32) = x * Ideal.ofBits .f32 0x3E000000#32 := by
  rw [ofBits_eight, ofBits_eighth, Ideal.div_coe (by norm_num)]

/-- A sum scaled by an eighth, term by term. -/
theorem sum_eighth {ι : Type} (s : Finset ι) (f : ι → EReal) :
    ∑ i ∈ s, f i * Ideal.ofBits .f32 0x3E000000#32 = (∑ i ∈ s, f i) * Ideal.ofBits .f32 0x3E000000#32 := by
  classical
  rw [ofBits_eighth]
  induction s using Finset.induction_on with
  | empty => simp
  | insert a s ha ih =>
    rw [Finset.sum_insert ha, Finset.sum_insert ha, ih, EReal.right_distrib_of_nonneg_of_ne_top (by exact_mod_cast (by norm_num : (0 : ℝ) ≤ 1 / 8)) (EReal.coe_ne_top _)]

/-- An exponential is nonnegative. -/
theorem exp_nonneg (x : EReal) : 0 ≤ Ideal.exp x := by
  induction x with
  | bot => simp
  | top => simp
  | coe r => rw [Ideal.exp_coe]; exact_mod_cast (Real.exp_pos r).le

/-- An exponential is zero at minus infinity alone. -/
theorem exp_ne_zero {x : EReal} (h : x ≠ ⊥) : Ideal.exp x ≠ 0 := by
  induction x with
  | bot => exact absurd rfl h
  | top => simp
  | coe r => rw [Ideal.exp_coe]; exact_mod_cast (Real.exp_pos r).ne'

/-- Zero over anything but zero is zero. -/
theorem zero_div {z : EReal} (h : z ≠ 0) : Ideal.div 0 z = 0 := by
  rw [Ideal.div, if_neg h, zero_mul]

/-- The exponentials of scores none of which is infinite, less their maximum, do not sum to zero when some score is real. -/
theorem total_ne_zero {n : ℕ} (S : Fin n → EReal) (hT : ∀ i, S i ≠ ⊤) (i₀ : Fin n) (hB : S i₀ ≠ ⊥) :
    ∑ i, Ideal.exp (S i - Finset.univ.fold max ⊥ S) ≠ 0 := by
  have hM : Finset.univ.fold max ⊥ S ≠ ⊤ := by
    refine ne_of_lt ?_
    rw [Finset.fold_max_lt]
    exact ⟨bot_lt_top, fun x _ => lt_top_iff_ne_top.2 (hT x)⟩
  intro h
  have h0 := (Finset.sum_eq_zero_iff_of_nonneg (fun i _ => exp_nonneg _)).1 h i₀ (Finset.mem_univ _)
  refine exp_ne_zero ?_ h0
  generalize Finset.univ.fold max ⊥ S = M at hM
  generalize S i₀ = s at hB
  induction s with
  | bot => exact absurd rfl hB
  | top =>
    induction M with
    | bot => decide
    | top => exact absurd rfl hM
    | coe r => exact EReal.top_sub_coe r ▸ (by simp)
  | coe a =>
    induction M with
    | bot => exact EReal.coe_sub_bot a ▸ (by simp)
    | top => exact absurd rfl hM
    | coe r => exact_mod_cast EReal.coe_ne_bot (a - r)

/-- Not infinite, either way. -/
def IsReal (x : EReal) : Prop := x ≠ ⊥ ∧ x ≠ ⊤

/-- A product of real numbers is real. -/
theorem IsReal.mul {x y : EReal} (hx : IsReal x) (hy : IsReal y) : IsReal (x * y) := by
  lift x to ℝ using ⟨hx.2, hx.1⟩
  lift y to ℝ using ⟨hy.2, hy.1⟩
  rw [← EReal.coe_mul]
  exact ⟨EReal.coe_ne_bot _, EReal.coe_ne_top _⟩

/-- A sum of two real numbers is real. -/
theorem IsReal.add {x y : EReal} (hx : IsReal x) (hy : IsReal y) : IsReal (x + y) := by
  lift x to ℝ using ⟨hx.2, hx.1⟩
  lift y to ℝ using ⟨hy.2, hy.1⟩
  rw [← EReal.coe_add]
  exact ⟨EReal.coe_ne_bot _, EReal.coe_ne_top _⟩

/-- A sum of real numbers is real. -/
theorem IsReal.sum {ι : Type} (s : Finset ι) (f : ι → EReal) (h : ∀ i ∈ s, IsReal (f i)) : IsReal (∑ i ∈ s, f i) :=
  Finset.sum_induction f IsReal (fun _ _ => IsReal.add) ⟨EReal.coe_ne_bot 0, EReal.coe_ne_top 0⟩ h

/-- One eighth is real. -/
theorem IsReal.eighth : IsReal (Ideal.ofBits .f32 0x3E000000#32) := by
  rw [ofBits_eighth]
  exact ⟨EReal.coe_ne_bot _, EReal.coe_ne_top _⟩

/-- An absolute value below infinity is that of a real number. -/
theorem IsReal.of_abs {x : EReal} (h : max x (-x) < ⊤) : IsReal x := by
  refine ⟨fun e => ?_, fun e => ?_⟩
  · subst e; simp at h
  · subst e; simp at h

end Cert.Hand

end
-- ==== Proof.KernelValueAt.lean ====
/- The kernel's scores and result, read at an index as functions of the seven arguments over the extended reals. -/
module

public import proofs.«01_k».proof.Proof.KernelIdealRun
public import proofs.«01_k».proof.Proof.KernelIdealResult
public import proofs.«01_k».proof.Proof.KernelIdealAt
public import proofs.«01_k».proof.Proof.HostAt
public import proofs.«01_k».proof.Proof.Softmax

@[expose] public section

set_option maxRecDepth 16384

noncomputable section

namespace Cert.KernelIdeal.Hand

open Cert.KernelIdeal.Gen Cert.Hand
open Idealize.ShloMosaic Idealize.ShloMosaic.TcCoe Idealize.ShloMosaic.Pointwise

/-- A row of an array against a lane of a head's weights. -/
def proj (x : Vec Ideal S1x2048x768 .f32) (w : Vec Ideal S768x768 .f32) (h : Fin 12) (i : Fin 2048) (l : Fin 64) : EReal :=
  ∑ k : Fin 768, x (ix3 0 i k) * w (ix2 ⟨h.val * 64 + l.val, by have := h.isLt; have := l.isLt; omega⟩ k)

/-- The kernel's lane `12 * l + h` is the head-major lane `64 * h + l`. -/
theorem spot_lane (l : Fin 64) (h : ℕ) (hh : h < 12) :
    spot ⟨12 * l.val + h, by have := l.isLt; omega⟩ = ⟨h * 64 + l.val, by have := l.isLt; omega⟩ :=
  Fin.ext (by show (12 * l.val + h) % 12 * 64 + (12 * l.val + h) / 12 = h * 64 + l.val; omega)

/-- The kernel's order of the lanes is a rearrangement. -/
theorem spot_bijective : Function.Bijective spot := by
  refine Finite.injective_iff_bijective.1 fun a b e => Fin.ext ?_
  have e' : (a.val % 12) * 64 + a.val / 12 = (b.val % 12) * 64 + b.val / 12 := congrArg Fin.val e
  have := a.isLt
  have := b.isLt
  omega

/-! ## The projected rows -/

/-- Row `32 + i` of the padded rows is the projection of row `i`. -/
theorem paddedRows_at (X : Vec Ideal S2048x768 .f32) (wt : Vec Ideal S768x768 .f32) (n : Fin 2080) (k : Fin 768) (i : Fin 2048) (h : n.val = 32 + i.val) :
    paddedRows X wt (ix2 n k) = ∑ k' : Fin 768, X (ix2 i k') * wt (ix2 k' k) := by
  unfold paddedRows
  rw [dif_pos (show 32 ≤ ((ix2 n k : (⟨2, ![2080, 768]⟩ : Shape).Idx) 0).val by show 32 ≤ n.val; omega)]
  refine (proj_at _ _ _ _).trans (Finset.sum_congr rfl fun k' _ => ?_)
  refine congrArg (fun a : Fin 2048 => X (ix2 a k') * wt (ix2 k' k)) (Fin.ext ?_)
  show 512 * ((n.val - 32) / 512) + (n.val - 32) % 512 = i.val
  omega

/-- The first 32 rows are zeros. -/
theorem paddedRows_front (X : Vec Ideal S2048x768 .f32) (wt : Vec Ideal S768x768 .f32) (n : Fin 2080) (k : Fin 768) (h : n.val < 32) :
    paddedRows X wt (ix2 n k) = 0 := by
  unfold paddedRows
  rw [dif_neg (show ¬ 32 ≤ ((ix2 n k : (⟨2, ![2080, 768]⟩ : Shape).Idx) 0).val by show ¬ 32 ≤ n.val; omega)]
  exact Ideal.ofBits_zero_f32

/-- A projection of the queries: a row times a column of the weights. -/
theorem query_proj_at (x : Vec Ideal S512x768 .f32) (wt : Vec Ideal S768x768 .f32) (r : Fin 512) (k : Fin 768) :
    k0_pay5 x wt (ix2 r k) = ∑ k' : Fin 768, x (ix2 r k') * wt (ix2 k' k) := by
  pointwise [k0_pay5]

variable (m : (ℓ : Loc nD τ sig) → Buf (Elt Ideal) ℓ)

/-- The projected keys, padded, at an index. -/
theorem keys_at (c : Dev nD) (n : Fin 2080) (l : Fin 64) (h : Fin 12) (i : Fin 2048) (hn : n.val = 32 + i.val) :
    keysOf m c (ix2 n ⟨12 * l.val + h.val, by have := l.isLt; have := h.isLt; omega⟩) = proj (argK m c) (argWk m c) h i l := by
  rw [keysOf, paddedRows_at _ _ _ _ i hn]
  refine Finset.sum_congr rfl fun k' _ => ?_
  rw [v1_at, v27_at, spot_lane l h.val h.isLt]

/-- The projected values, padded, at an index. -/
theorem values_at (c : Dev nD) (n : Fin 2080) (k : Fin 768) (i : Fin 2048) (hn : n.val = 32 + i.val) :
    valuesOf m c (ix2 n k) = proj (argV m c) (argWv m c) ⟨k.val % 12, by omega⟩ i ⟨k.val / 12, by have := k.isLt; omega⟩ := by
  rw [valuesOf, paddedRows_at _ _ _ _ i hn]
  refine Finset.sum_congr rfl fun k' _ => ?_
  rw [v2_at, v35_at]
  rfl

/-- The projected queries, an eighth of the reference's. -/
theorem queries_at (c : Dev nD) (b : Fin 4) (r : Fin 512) (l : Fin 64) (h : Fin 12) (i : Fin 2048) (hi : i.val = 512 * b.val + r.val) :
    k0_pay5 (rowsOf b (V m c main_call0_v0)) (V m c main_call0_v19) (ix2 r ⟨12 * l.val + h.val, by have := l.isLt; have := h.isLt; omega⟩)
      = proj (argQ m c) (argWq m c) h i l * Ideal.ofBits .f32 0x3E000000#32 := by
  rw [query_proj_at, proj, ← sum_eighth]
  refine Finset.sum_congr rfl fun k' _ => ?_
  rw [v19_at, spot_lane l h.val h.isLt, ← mul_assoc]
  refine congrArg (fun a => a * _ * _) ?_
  refine Eq.trans ?_ (v0_at m c i k')
  exact congrArg (fun a : Fin 2048 => V m c main_call0_v0 (ix2 a k')) (Fin.ext hi.symm)

/-! ## The scores -/

/-- A score: row `i` of head `h` against the row that the `d`-th place of its span looks back to, scaled; minus infinity where
    that lies before the sequence. -/
def score (c : Dev nD) (h : Fin 12) (d : Fin 32) (i : Fin 2048) : EReal :=
  if 31 ≤ d.val + i.val then
    (∑ l : Fin 64, proj (argQ m c) (argWq m c) h i l
      * proj (argK m c) (argWk m c) h ⟨d.val + i.val - 31, by have := d.isLt; have := i.isLt; omega⟩ l) * Ideal.ofBits .f32 0x3E000000#32
  else ⊥

/-- A row of the scores is its block's. -/
theorem allScores_row (Q : Vec Ideal S2048x768 .f32) (wq : Vec Ideal S768x768 .f32) (ks : Vec Ideal S2080x768 .f32) (i : Fin 2048) (k : Fin 384) :
    allScores Q wq ks (ix2 i k) = blockScores ⟨i.val / 512, by have := i.isLt; omega⟩ (k0_pay5 (rowsOf ⟨i.val / 512, by have := i.isLt; omega⟩ Q) wq)
      (window ⟨i.val / 512, by have := i.isLt; omega⟩ ks) ⟨i.val % 512, by omega⟩ k := rfl

/-- The kernel's scores at an index. -/
theorem scores_at (c : Dev nD) (i : Fin 2048) (d : Fin 32) (h : Fin 12) :
    scoresOf m c (ix2 i ⟨12 * d.val + h.val, by have := d.isLt; have := h.isLt; omega⟩) = score m c h d i := by
  have hd := d.isLt
  have hh := h.isLt
  have hi := i.isLt
  have e1 : (12 * d.val + h.val) % 12 = h.val := by omega
  have e2 : (12 * d.val + h.val) / 12 = d.val := by omega
  have e3 : 512 * (i.val / 512) + i.val % 512 + (12 * d.val + h.val) / 12 = d.val + i.val := by omega
  rw [scoresOf, allScores_row, blockScores_at]
  unfold score
  by_cases g : 31 ≤ d.val + i.val
  · rw [if_pos (show 31 ≤ 512 * (i.val / 512) + i.val % 512 + (12 * d.val + h.val) / 12 by omega), if_pos g, ← sum_eighth]
    refine Finset.sum_congr rfl fun l _ => ?_
    have hl : (⟨12 * l.val + (12 * d.val + h.val) % 12, by have := l.isLt; omega⟩ : Fin 768)
        = ⟨12 * l.val + h.val, by have := l.isLt; omega⟩ := Fin.ext (by show 12 * l.val + (12 * d.val + h.val) % 12 = 12 * l.val + h.val; omega)
    have q := queries_at m c ⟨i.val / 512, by omega⟩ ⟨i.val % 512, by omega⟩ l h i (by show i.val = 512 * (i.val / 512) + i.val % 512; omega)
    have k := keys_at m c ⟨512 * (i.val / 512) + ((12 * d.val + h.val) / 12 + 1 + i.val % 512), by omega⟩ l h ⟨d.val + i.val - 31, by omega⟩
      (by show 512 * (i.val / 512) + ((12 * d.val + h.val) / 12 + 1 + i.val % 512) = 32 + (d.val + i.val - 31); omega)
    rw [mul_right_comm, ← q, ← k]
    exact congrArg (fun a : Fin 768 => k0_pay5 (rowsOf ⟨i.val / 512, by omega⟩ (V m c main_call0_v0)) (V m c main_call0_v19) (ix2 ⟨i.val % 512, by omega⟩ a)
      * keysOf m c (ix2 ⟨512 * (i.val / 512) + ((12 * d.val + h.val) / 12 + 1 + i.val % 512), by omega⟩ a)) hl
  · rw [if_neg (show ¬ 31 ≤ 512 * (i.val / 512) + i.val % 512 + (12 * d.val + h.val) / 12 by omega), if_neg g]

/-! ## The result -/

/-- The exponential of a score less the maximum over the sequence. -/
def expo (c : Dev nD) (h : Fin 12) (d : Fin 32) (i : Fin 2048) : EReal :=
  Ideal.exp (score m c h d i - Finset.univ.fold max ⊥ (score m c h d))

/-- A weight. -/
def wgt (c : Dev nD) (h : Fin 12) (d : Fin 32) (i : Fin 2048) : EReal := Ideal.div (expo m c h d i) (∑ j, expo m c h d j)

/-- A weight, of the scores of its column. -/
theorem weight_of (S : Vec Ideal S2048x384 .f32) (k : Fin 384) (f : Fin 2048 → EReal) (hS : ∀ j : Fin 2048, S (ix2 j k) = f j) (b : Fin 4) (r : Fin 512)
    (i : Fin 2048) (hi : i.val = 512 * b.val + r.val) :
    k0_pay63 (k0_pay61 S) (k0_pay62 S) (scoreRows b S) (ix2 r k)
      = Ideal.div (Ideal.exp (f i - Finset.univ.fold max ⊥ f)) (∑ j, Ideal.exp (f j - Finset.univ.fold max ⊥ f)) := by
  have e : scoreRows b S (ix2 r k) = f i := by
    rw [← hS]
    exact congrArg (fun a : Fin 2048 => S (ix2 a k)) (Fin.ext hi.symm)
  rw [weight_at, maxima_at, sums_at, e, funext hS]
  simp only [hS]

/-- The kernel's weights at an index. -/
theorem wgt_at (c : Dev nD) (b : Fin 4) (r : Fin 512) (i : Fin 2048) (hi : i.val = 512 * b.val + r.val) (d : Fin 32) (h : Fin 12) :
    k0_pay63 (k0_pay61 (scoresOf m c)) (k0_pay62 (scoresOf m c)) (scoreRows b (scoresOf m c))
      (ix2 r ⟨12 * d.val + h.val, by have := d.isLt; have := h.isLt; omega⟩) = wgt m c h d i :=
  weight_of _ _ (score m c h d) (fun j => scores_at m c j d h) b r i hi

/-- The value a lane's place of the span adds: nothing where it lies before the sequence. -/
def share (c : Dev nD) (h : Fin 12) (l : Fin 64) (i : Fin 2048) (d : Fin 32) : EReal :=
  if 31 ≤ d.val + i.val then
    wgt m c h d i * proj (argV m c) (argWv m c) h ⟨d.val + i.val - 31, by have := d.isLt; have := i.isLt; omega⟩ l
  else 0

/-- A row of the result is its block's. -/
theorem result_row (c : Dev nD) (i : Fin 2048) (o : Fin 768) :
    resultBuf m c (ix3 0 i o) = outBlock (k0_pay63 (k0_pay61 (scoresOf m c)) (k0_pay62 (scoresOf m c))
        (scoreRows ⟨i.val / 512, by have := i.isLt; omega⟩ (scoresOf m c)))
      (window ⟨i.val / 512, by have := i.isLt; omega⟩ (valuesOf m c)) (V m c main_call0_v43) (ix2 ⟨i.val % 512, by omega⟩ o) := rfl

/-- The kernel's result at an index: each lane's sum over the span, against the output's weights. -/
theorem result_at (c : Dev nD) (i : Fin 2048) (o : Fin 768) :
    resultBuf m c (ix3 0 i o) = ∑ k : Fin 768, (∑ d : Fin 32, share m c ⟨k.val % 12, by omega⟩ ⟨k.val / 12, by have := k.isLt; omega⟩ i d)
      * argWo m c (ix2 o (spot k)) := by
  have hi := i.isLt
  rw [result_row, outBlock_at]
  refine Finset.sum_congr rfl fun k _ => ?_
  have hk := k.isLt
  rw [v43_at]
  refine congrArg (· * argWo m c (ix2 o (spot k))) (Finset.sum_congr rfl fun d _ => ?_)
  have hd := d.isLt
  have w := wgt_at m c ⟨i.val / 512, by omega⟩ ⟨i.val % 512, by omega⟩ i (by show i.val = 512 * (i.val / 512) + i.val % 512; omega) d ⟨k.val % 12, by omega⟩
  unfold share
  by_cases g : 31 ≤ d.val + i.val
  · rw [if_pos g, ← w]
    refine congrArg (_ * ·) ?_
    exact values_at m c ⟨512 * (i.val / 512) + (d.val + 1 + i.val % 512), by omega⟩ k ⟨d.val + i.val - 31, by omega⟩
      (by show 512 * (i.val / 512) + (d.val + 1 + i.val % 512) = 32 + (d.val + i.val - 31); omega)
  · rw [if_neg g]
    refine (congrArg (_ * ·) (?_ : _ = (0 : EReal))).trans (mul_zero _)
    exact paddedRows_front _ _ ⟨512 * (i.val / 512) + (d.val + 1 + i.val % 512), by omega⟩ k
      (by show 512 * (i.val / 512) + (d.val + 1 + i.val % 512) < 32; omega)

end Cert.KernelIdeal.Hand

end
-- ==== Proof.ReferenceAt.lean ====
/- The reference's result, layer by layer, and each layer read at an index over the extended reals. -/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal.Gen
open Idealize.ShloMosaic Idealize.ShloMosaic.TcCoe Idealize.ShloMosaic.Pointwise

variable {F : FTy → Type} [FloatOps F]

/-! ## The layers -/

/-- A projection, split into heads. -/
def heads (x : Vec F S1x2048x768 .f32) (w : Vec F S768x768 .f32) : Vec F S1x12x2048x64 .f32 :=
  transpose S1x12x2048x64 [0, 2, 1, 3] (shapeCast S1x2048x12x64 (Host.dotGeneral dot_S1x2048x768_S768x768_S1x2048x768_2_0_01_1_n_n none x (transpose S768x768 [1, 0] w transposes_S768x768_S768x768_1_0)) shapeCasts_S1x2048x768_S1x2048x12x64) transposes_S1x2048x12x64_S1x12x2048x64_0_2_1_3

/-- The position that each row looks back to. -/
def back : IVec S32x2048 32 :=
  addi (subi (broadcastInDim S32x2048 ![0] bcast_S32_S32x2048_0 (iotaInDim S32 32 0)) (broadcastInDim S32x2048 ![] bcast_S_S32x2048 (constantI S_ 32 31#32))) (broadcastInDim S32x2048 ![0, 1] bcast_S1x2048_S32x2048_0_1 (broadcastInDim S1x2048 ![1] bcast_S2048_S1x2048_1 (addi (broadcastInDim S2048 ![] bcast_S_S2048 (constantI S_ 32 0#32)) (muli (broadcastInDim S2048 ![] bcast_S_S2048 (constantI S_ 32 1#32)) (iotaInDim S2048 32 0)))))

/-- That position, kept inside the sequence. -/
def clipped : IVec S32x2048 32 :=
  minsi (broadcastInDim S32x2048 ![] bcast_S_S32x2048 (id (constantI S_ 32 2047#32))) (maxsi (broadcastInDim S32x2048 ![] bcast_S_S32x2048 (id (constantI S_ 32 0#32))) back)

/-- As an index of the sequence. -/
def places : IVec S32x2048x1 32 :=
  broadcastInDim S32x2048x1 ![0, 1] bcast_S32x2048_S32x2048x1_0_1 (select (cmpi .slt clipped (broadcastInDim S32x2048 ![] bcast_S_S32x2048 (constantI S_ 32 0#32))) (addi clipped (broadcastInDim S32x2048 ![] bcast_S_S32x2048 (constantI S_ 32 2048#32))) clipped)

/-- The projected rows at those positions. -/
def looked (X : Vec F S1x12x2048x64 .f32) : Vec F S1x12x32x2048x64 .f32 :=
  Host.gather gather_S1x12x2048x64_S32x2048x1_S1x12x32x2048x64_014_2_n_n_2_2_112164 X places

/-- Whether the position lies inside the sequence. -/
def valid : IVec S32x2048 1 :=
  andi (cmpi .sge back (broadcastInDim S32x2048 ![] bcast_S_S32x2048 (constantI S_ 32 0#32))) (cmpi .slt back (broadcastInDim S32x2048 ![] bcast_S_S32x2048 (constantI S_ 32 2048#32)))

/-- The scores. -/
def table (Q K : Vec F S1x12x2048x64 .f32) : Vec F S1x12x32x2048 .f32 :=
  select (broadcastInDim S1x12x32x2048 ![0, 1, 2, 3] bcast_S1x1x32x2048_S1x12x32x2048_0_1_2_3 (broadcastInDim S1x1x32x2048 ![2, 3] bcast_S32x2048_S1x1x32x2048_2_3 valid)) (Host.divf (transpose S1x12x32x2048 [0, 1, 3, 2] (Host.dotGeneral dot_S1x12x32x2048x64_S1x12x2048x64_S1x12x2048x32_4_3_2_n_013_012 none (looked K) Q) transposes_S1x12x2048x32_S1x12x32x2048_0_1_3_2) (broadcastInDim S1x12x32x2048 ![] bcast_S_S1x12x32x2048 (constant S_ .f32 0x41000000#32))) (broadcastInDim S1x12x32x2048 ![] bcast_S_S1x12x32x2048 (id (constant S_ .f32 0xFF800000#32)))

/-- The exponentials of the scores less their maximum over the sequence. -/
def exps (T : Vec F S1x12x32x2048 .f32) : Vec F S1x12x32x2048 .f32 :=
  Host.exp (subf T (broadcastInDim S1x12x32x2048 ![0, 1, 2, 3] bcast_S1x12x32x1_S1x12x32x2048_0_1_2_3 (broadcastInDim S1x12x32x1 ![0, 1, 2] bcast_S1x12x32_S1x12x32x1_0_1_2 (maximumf (broadcastInDim S1x12x32 ![] bcast_S_S1x12x32 (constant S_ .f32 0xFF800000#32)) (Host.reduce FloatOps.maximumf T (constant S_ .f32 0xFF800000#32) reducesTo_S1x12x32x2048_S1x12x32_d3 h_S_)))))

/-- The weights. -/
def weights (E : Vec F S1x12x32x2048 .f32) : Vec F S1x12x32x2048 .f32 :=
  Host.divf E (broadcastInDim S1x12x32x2048 ![0, 1, 2, 3] bcast_S1x12x32x1_S1x12x32x2048_0_1_2_3 (broadcastInDim S1x12x32x1 ![0, 1, 2] bcast_S1x12x32_S1x12x32x1_0_1_2 (Host.reduceAdd E (constant S_ .f32 0x00000000#32) reducesTo_S1x12x32x2048_S1x12x32_d3 h_S_)))

/-- The weighted sum over the positions, the heads side by side. -/
def mixed (W : Vec F S1x12x32x2048 .f32) (V : Vec F S1x12x2048x64 .f32) : Vec F S1x2048x768 .f32 :=
  shapeCast S1x2048x768 (transpose S1x2048x12x64 [0, 2, 1, 3] (Host.reduceAdd (mulf (broadcastInDim S1x12x32x2048x64 ![0, 1, 2, 3, 4] bcast_S1x12x32x2048x1_S1x12x32x2048x64_0_1_2_3_4 (broadcastInDim S1x12x32x2048x1 ![0, 1, 2, 3] bcast_S1x12x32x2048_S1x12x32x2048x1_0_1_2_3 W)) (looked V)) (constant S_ .f32 0x00000000#32) reducesTo_S1x12x32x2048x64_S1x12x2048x64_d2 h_S_) transposes_S1x12x2048x64_S1x2048x12x64_0_2_1_3) shapeCasts_S1x2048x12x64_S1x2048x768

/-- The result. -/
def outcome (A : Vec F S1x2048x768 .f32) (w : Vec F S768x768 .f32) : Vec F S1x2048x768 .f32 :=
  Host.dotGeneral dot_S1x2048x768_S768x768_S1x2048x768_2_0_01_1_n_n none A (transpose S768x768 [1, 0] w transposes_S768x768_S768x768_1_0)

/-- The reference of its seven arguments. -/
def value (q k v : Vec F S1x2048x768 .f32) (wq wk wv wo : Vec F S768x768 .f32) : Vec F S1x2048x768 .f32 :=
  outcome (mixed (weights (exps (table (heads q wq) (heads k wk)))) (heads v wv)) wo

/-- The reference's result is the layers' composition. -/
theorem res_eq (m : (ℓ : Loc nD τ sig) → Buf (Elt F) ℓ) (c : Dev nD) : Cert.ReferenceIdeal.Value.res_main_v70 m c
    = value (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) := rfl

/-! ## At an index -/

/-- A head of a projection: a row times a row of the weights. -/
theorem heads_at (x : Vec Ideal S1x2048x768 .f32) (w : Vec Ideal S768x768 .f32) (h : Fin 12) (i : Fin 2048) (l : Fin 64) :
    heads x w (ix4 0 h i l) = ∑ k : Fin 768, x (ix3 0 i k) * w (ix2 ⟨h.val * 64 + l.val, by have := h.isLt; have := l.isLt; omega⟩ k) := by
  pointwise [heads]

/-- Place `d` of row `i` looks back to position `d + i - 31`. -/
theorem back_at (d : Fin 32) (i : Fin 2048) : (back (ix2 d i)).toInt = (d.val : ℤ) + i.val - 31 := by
  pointwise [back]
  have hd := d.isLt
  have hi := i.isLt
  simp only [IntOp.addi, IntOp.subi, IntOp.muli, BitVec.zero_add, BitVec.one_mul]
  rw [BitVec.toInt_eq_toNat_bmod, BitVec.toNat_add, BitVec.toNat_sub, BitVec.toNat_ofNat, BitVec.toNat_ofNat, BitVec.toNat_ofNat]
  rw [Int.bmod_def]
  split_ifs <;> omega

/-- Before the sequence that is position 0. -/
theorem clipped_at (d : Fin 32) (i : Fin 2048) : (clipped (ix2 d i)).toInt = ((d.val + i.val - 31 : ℕ) : ℤ) := by
  have hd := d.isLt
  have hi := i.isLt
  have e : clipped (ix2 d i) = IntOp.minsi 2047#32 (IntOp.maxsi 0#32 (back (ix2 d i))) := by
    pointwise [clipped]
    rfl
  have h := back_at d i
  rw [e]
  simp only [IntOp.minsi, IntOp.maxsi, BitVec.slt_eq_decide, BitVec.sle_eq_decide]
  have h0 : (0#32).toInt = 0 := rfl
  have h1 : (2047#32).toInt = 2047 := rfl
  split_ifs with h2 h3 h3 <;> simp_all <;> omega

/-- The same as an index of the gather. -/
theorem places_at (d : Fin 32) (i : Fin 2048) : (places (ix3 d i 0)).toInt = ((d.val + i.val - 31 : ℕ) : ℤ) := by
  have e : places (ix3 d i 0) = Scalar.select (IntOp.cmpi CmpIPredicate.slt (clipped (ix2 d i)) 0#32) (IntOp.addi (clipped (ix2 d i)) 2048#32)
      (clipped (ix2 d i)) := by
    pointwise [places]
  have h := clipped_at d i
  have c : IntOp.cmpi CmpIPredicate.slt (clipped (ix2 d i)) 0#32 = 0#1 := by
    have h0 : (0#32).toInt = 0 := rfl
    have hs : (clipped (ix2 d i)).slt 0#32 = false := by
      rw [BitVec.slt_eq_decide, h, h0]
      simp
    show BitVec.ofBool ((clipped (ix2 d i)).slt 0#32) = 0#1
    rw [hs]
    rfl
  rw [e, c, ← h]
  rfl

/-- The position lies inside the sequence exactly when it is not negative. -/
theorem valid_at (d : Fin 32) (i : Fin 2048) : valid (ix2 d i) = if 31 ≤ d.val + i.val then 1#1 else 0#1 := by
  have hd := d.isLt
  have hi := i.isLt
  have e : valid (ix2 d i) = IntOp.andi (IntOp.cmpi CmpIPredicate.sge (back (ix2 d i)) 0#32)
      (IntOp.cmpi CmpIPredicate.slt (back (ix2 d i)) 2048#32) := by
    pointwise [valid]
  have h := back_at d i
  have h0 : (0#32).toInt = 0 := rfl
  have h1 : (2048#32).toInt = 2048 := rfl
  rw [e]
  simp only [IntOp.cmpi, BitVec.slt_eq_decide, BitVec.sle_eq_decide, h, h0, h1]
  have a1 : ((d.val : ℤ) + i.val - 31 < 2048) := by omega
  by_cases c : 31 ≤ d.val + i.val
  · have a2 : ((0 : ℤ) ≤ d.val + i.val - 31) := by omega
    simp only [a1, a2, c, decide_true, if_true]
    rfl
  · have a2 : ¬ ((0 : ℤ) ≤ d.val + i.val - 31) := by omega
    simp only [a1, a2, c, decide_true, decide_false, if_false]
    rfl

/-- The gather reads the row at the clipped position. -/
theorem looked_at (X : Vec Ideal S1x12x2048x64 .f32) (h : Fin 12) (d : Fin 32) (i : Fin 2048) (l : Fin 64) :
    looked X (ix5 0 h d i l) = X (ix4 0 h ⟨d.val + i.val - 31, by have := d.isLt; have := i.isLt; omega⟩ l) := by
  have hd := d.isLt
  have hi := i.isLt
  unfold looked Host.gather
  refine congrArg X (funext fun a => Fin.ext ?_)
  match a with
  | ⟨0, _⟩ => rfl
  | ⟨1, _⟩ => exact Nat.zero_add _
  | ⟨2, _⟩ =>
    have e : (gather_S1x12x2048x64_S32x2048x1_S1x12x32x2048x64_014_2_n_n_2_2_112164.siIdx (ix5 0 h d i l) ⟨0, by decide⟩) = ix3 d i 0 := by
      funext b
      match b with
      | ⟨0, _⟩ => rfl
      | ⟨1, _⟩ => rfl
      | ⟨2, _⟩ => rfl
    show min (places (gather_S1x12x2048x64_S32x2048x1_S1x12x32x2048x64_014_2_n_n_2_2_112164.siIdx (ix5 0 h d i l) ⟨0, by decide⟩)).toInt.toNat (2048 - 1) + 0 + 0 = d.val + i.val - 31
    rw [e, places_at]
    omega
  | ⟨3, _⟩ => exact Nat.zero_add _

/-- The constant minus infinity. -/
theorem ofBits_neg_inf : Ideal.ofBits .f32 0xFF800000#32 = ⊥ := by simp [Ideal.ofBits, Ideal.ieee]

/-- A score: the product of the two rows divided by eight, or minus infinity. -/
theorem table_at (Q K : Vec Ideal S1x12x2048x64 .f32) (h : Fin 12) (d : Fin 32) (i : Fin 2048) :
    table Q K (ix4 0 h d i) = if 31 ≤ d.val + i.val then
      Ideal.div (∑ l : Fin 64, K (ix4 0 h ⟨d.val + i.val - 31, by have := d.isLt; have := i.isLt; omega⟩ l) * Q (ix4 0 h i l)) (Ideal.ofBits .f32 0x41000000#32)
      else ⊥ := by
  have e : table Q K (ix4 0 h d i) = Scalar.select (valid (ix2 d i))
      (Ideal.div (∑ x, looked K (ix5 0 h d i x) * Q (ix4 0 h i x)) (Ideal.ofBits FTy.f32 0x41000000#32))
      (Ideal.ofBits FTy.f32 0xFF800000#32) := by
    pointwise [table]
    rfl
  rw [e, valid_at, ofBits_neg_inf]
  simp only [looked_at]
  by_cases c : 31 ≤ d.val + i.val
  · rw [if_pos c, if_pos c]
    rfl
  · rw [if_neg c, if_neg c]
    rfl

/-- An exponential of a score less the maximum over the sequence. -/
theorem exps_at (T : Vec Ideal S1x12x32x2048 .f32) (h : Fin 12) (d : Fin 32) (i : Fin 2048) :
    exps T (ix4 0 h d i) = Ideal.exp (T (ix4 0 h d i) - Finset.univ.fold max ⊥ (fun j : Fin 2048 => T (ix4 0 h d j))) := by
  have e : exps T (ix4 0 h d i) = Ideal.exp
      (T (ix4 0 h d i) -
        max (Ideal.ofBits FTy.f32 0xFF800000#32)
          (Finset.fold max (Ideal.ofBits FTy.f32 0xFF800000#32) (fun x => T (ix4 0 h d x)) Finset.univ)) := by
    pointwise [exps]
  rw [e, ofBits_neg_inf, max_bot_left]

/-- A weight: an exponential divided by the sum over the sequence. -/
theorem weights_at (T : Vec Ideal S1x12x32x2048 .f32) (h : Fin 12) (d : Fin 32) (i : Fin 2048) :
    weights T (ix4 0 h d i) = Ideal.div (T (ix4 0 h d i)) (∑ j : Fin 2048, T (ix4 0 h d j)) := by
  pointwise [weights]

/-- A lane of the weighted sum over the span. -/
theorem mixed_at (W : Vec Ideal S1x12x32x2048 .f32) (V : Vec Ideal S1x12x2048x64 .f32) (i : Fin 2048) (c : Fin 768) :
    mixed W V (ix3 0 i c) = ∑ d : Fin 32, W (ix4 0 ⟨c.val / 64, by have := c.isLt; omega⟩ d i)
      * V (ix4 0 ⟨c.val / 64, by have := c.isLt; omega⟩ ⟨d.val + i.val - 31, by have := d.isLt; have := i.isLt; omega⟩ ⟨c.val % 64, by omega⟩) := by
  have e : mixed W V (ix3 0 i c) = ∑ d : Fin 32, W (ix4 0 ⟨c.val / 64, by have := c.isLt; omega⟩ d i)
      * looked V (ix5 0 ⟨c.val / 64, by have := c.isLt; omega⟩ d i ⟨c.val % 64, by omega⟩) := by
    pointwise [mixed]
  rw [e]
  exact Finset.sum_congr rfl fun d _ => by rw [looked_at]

/-- The result: a row of the weighted sums times a row of the output's weights. -/
theorem outcome_at (A : Vec Ideal S1x2048x768 .f32) (w : Vec Ideal S768x768 .f32) (i : Fin 2048) (o : Fin 768) :
    outcome A w (ix3 0 i o) = ∑ k : Fin 768, A (ix3 0 i k) * w (ix2 o k) := by
  pointwise [outcome]

end Cert.ReferenceIdeal.Hand

end
-- ==== Proof.Equal.lean ====
/- The kernel's result is the reference's, over the extended reals, where the queries, the keys and their weights are finite. -/
module

public import proofs.«01_k».proof.Proof.KernelValueAt
public import proofs.«01_k».proof.Proof.ReferenceAt
public import proofs.«01_k».proof.Defs
public import Idealize.ShloMosaic.Lib.ReduceAll

@[expose] public section

set_option maxRecDepth 16384

noncomputable section

namespace Cert.Equal

open Cert.Hand Cert.KernelIdeal Cert.KernelIdeal.Hand
open Cert.ReferenceIdeal.Hand (heads table exps weights mixed outcome value)
open Idealize.ShloMosaic Idealize.ShloMosaic.TcCoe Idealize.ShloMosaic.Pointwise

variable (m : (ℓ : Loc nD τ sig) → Buf (Elt Ideal) ℓ)

/-- A head of a projection, at an index. -/
theorem heads_eq (x : Vec Ideal S1x2048x768 .f32) (w : Vec Ideal S768x768 .f32) (h : Fin 12) (i : Fin 2048) (l : Fin 64) :
    heads x w (ix4 0 h i l) = proj x w h i l := Cert.ReferenceIdeal.Hand.heads_at x w h i l

/-- The scores agree: an eighth of the queries' projection before the sum is an eighth of the sum. -/
theorem table_eq (c : Dev nD) (h : Fin 12) (d : Fin 32) (i : Fin 2048) :
    table (heads (argQ m c) (argWq m c)) (heads (argK m c) (argWk m c)) (ix4 0 h d i) = score m c h d i := by
  rw [Cert.ReferenceIdeal.Hand.table_at, score, div_eight]
  by_cases g : 31 ≤ d.val + i.val
  · rw [if_pos g, if_pos g]
    refine congrArg (· * Ideal.ofBits .f32 0x3E000000#32) (Finset.sum_congr rfl fun l _ => ?_)
    rw [heads_eq, heads_eq]
    exact mul_comm _ _
  · rw [if_neg g, if_neg g]

/-- The exponentials agree. -/
theorem exps_eq (c : Dev nD) (h : Fin 12) (d : Fin 32) (i : Fin 2048) :
    exps (table (heads (argQ m c) (argWq m c)) (heads (argK m c) (argWk m c))) (ix4 0 h d i) = expo m c h d i := by
  rw [Cert.ReferenceIdeal.Hand.exps_at, funext (table_eq m c h d), table_eq, expo]

/-- The weights agree. -/
theorem weights_eq (c : Dev nD) (h : Fin 12) (d : Fin 32) (i : Fin 2048) :
    weights (exps (table (heads (argQ m c) (argWq m c)) (heads (argK m c) (argWk m c)))) (ix4 0 h d i) = wgt m c h d i := by
  rw [Cert.ReferenceIdeal.Hand.weights_at, funext (exps_eq m c h d), exps_eq, wgt]

/-! ## Finite scores -/

/-- What the precondition gives: the queries, the keys and their weights are real numbers. -/
structure Finite (c : Dev nD) : Prop where
  q : ∀ y, IsReal (argQ m c y)
  k : ∀ y, IsReal (argK m c y)
  wq : ∀ y, IsReal (argWq m c y)
  wk : ∀ y, IsReal (argWk m c y)

variable {m}

/-- A projection of real arrays is real. -/
theorem proj_real {x : Vec Ideal S1x2048x768 .f32} {w : Vec Ideal S768x768 .f32} (hx : ∀ y, IsReal (x y)) (hw : ∀ y, IsReal (w y)) (h : Fin 12)
    (i : Fin 2048) (l : Fin 64) : IsReal (proj x w h i l) :=
  IsReal.sum _ _ fun k _ => (hx _).mul (hw _)

/-- A score inside the sequence is real. -/
theorem score_real {c : Dev nD} (f : Finite m c) (h : Fin 12) (d : Fin 32) (i : Fin 2048) (g : 31 ≤ d.val + i.val) : IsReal (score m c h d i) := by
  rw [score, if_pos g]
  exact (IsReal.sum _ _ fun l _ => (proj_real f.q f.wq _ _ _).mul (proj_real f.k f.wk _ _ _)).mul IsReal.eighth

/-- No score is plus infinity. -/
theorem score_ne_top {c : Dev nD} (f : Finite m c) (h : Fin 12) (d : Fin 32) (i : Fin 2048) : score m c h d i ≠ ⊤ := by
  by_cases g : 31 ≤ d.val + i.val
  · exact (score_real f h d i g).2
  · rw [score, if_neg g]
    exact bot_ne_top

/-- The weight of a place before the sequence is zero. -/
theorem wgt_front {c : Dev nD} (f : Finite m c) (h : Fin 12) (d : Fin 32) (i : Fin 2048) (g : ¬ 31 ≤ d.val + i.val) : wgt m c h d i = 0 := by
  have z : ∑ j, expo m c h d j ≠ 0 :=
    total_ne_zero (score m c h d) (score_ne_top f h d) ⟨31, by decide⟩ (score_real f h d _ (by show 31 ≤ d.val + 31; omega)).1
  have e : expo m c h d i = 0 := by
    rw [expo, score, if_neg g, EReal.bot_sub, Ideal.exp_bot]
  rw [wgt, e, zero_div z]

/-- So the reference's sum over the span, which adds that weight times the first row's value, adds nothing there. -/
theorem share_eq {c : Dev nD} (f : Finite m c) (h : Fin 12) (l : Fin 64) (i : Fin 2048) (d : Fin 32) :
    wgt m c h d i * proj (argV m c) (argWv m c) h ⟨d.val + i.val - 31, by have := d.isLt; have := i.isLt; omega⟩ l = share m c h l i d := by
  unfold share
  by_cases g : 31 ≤ d.val + i.val
  · rw [if_pos g]
  · rw [if_neg g, wgt_front f h d i g, zero_mul]

/-- The reference's weighted sum, place by place, is the kernel's. -/
theorem mixed_eq {c : Dev nD} (f : Finite m c) (i : Fin 2048) (k : Fin 768) :
    mixed (weights (exps (table (heads (argQ m c) (argWq m c)) (heads (argK m c) (argWk m c))))) (heads (argV m c) (argWv m c)) (ix3 0 i k)
      = ∑ d : Fin 32, share m c ⟨k.val / 64, by have := k.isLt; omega⟩ ⟨k.val % 64, by omega⟩ i d := by
  rw [Cert.ReferenceIdeal.Hand.mixed_at]
  refine Finset.sum_congr rfl fun d _ => ?_
  rw [weights_eq, heads_eq, share_eq f]

/-- The results agree at every index. -/
theorem value_at {c : Dev nD} (f : Finite m c) (i : Fin 2048) (o : Fin 768) :
    resultBuf m c (ix3 0 i o)
      = value (argQ m c) (argK m c) (argV m c) (argWq m c) (argWk m c) (argWv m c) (argWo m c) (ix3 0 i o) := by
  rw [result_at, value, Cert.ReferenceIdeal.Hand.outcome_at]
  refine Eq.trans ?_ (spot_bijective.sum_comp _)
  refine Finset.sum_congr rfl fun k _ => ?_
  have hk := k.isLt
  rw [mixed_eq f]
  have e1 : (⟨k.val % 12, by omega⟩ : Fin 12) = ⟨(spot k).val / 64, by have := (spot k).isLt; omega⟩ :=
    Fin.ext (by show k.val % 12 = (k.val % 12 * 64 + k.val / 12) / 64; omega)
  have e2 : (⟨k.val / 12, by omega⟩ : Fin 64) = ⟨(spot k).val % 64, by omega⟩ :=
    Fin.ext (by show k.val / 12 = (k.val % 12 * 64 + k.val / 12) % 64; omega)
  rw [e1, e2]

/-- The results agree. -/
theorem value_eq {c : Dev nD} (f : Finite m c) :
    resultBuf m c = value (argQ m c) (argK m c) (argV m c) (argWq m c) (argWk m c) (argWv m c) (argWo m c) := by
  funext y
  have e : y = ix3 (n0 := 1) (n1 := 2048) (n2 := 768) 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  rw [e]
  exact value_at f (y 1) (y 2)

/-! ## The precondition -/

/-- The precondition's shape facts. -/
instance preFacts : Cert.Pre_finite_scores.Facts where
  bcast_S_S1x2048x768 := by decide
  reducesTo_S1x2048x768_S_d0_1_2 := by decide
  h_S_ := by decide
  bcast_S_S768x768 := by decide
  reducesTo_S768x768_S_d0_1 := by decide

/-- An array whose absolute values are all below infinity holds real numbers. -/
theorem real_of_all {s : Shape} {axes : List (Fin s.rank)} (x : Vec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32))) (constantI S_ 1 1#1) hr hu ix0 = 1#1)
    (y : s.Idx) : IsReal (x y) := by
  haveI : Subsingleton S_.Idx := ⟨fun a b => funext fun i => i.elim0⟩
  have h1 := Host.reduce_andi_all _ _ hr hu _ h y
  have h2 : Ideal.cmp .olt (max (x y) (-x y)) (Ideal.ofBits .f32 0x7F800000#32) = 1#1 := h1
  have e : Ideal.ofBits .f32 0x7F800000#32 = ⊤ := by simp [Ideal.ofBits, Ideal.ieee]
  rw [e] at h2
  refine IsReal.of_abs ?_
  by_contra hn
  simp [Ideal.cmp, hn] at h2

/-- The precondition's meaning. -/
theorem finite_of_pre (h : Cert.Pre_KernelIdeal_finite_scores m) (c : Dev nD) : Finite m c := by
  have e := congrFun (h c) ix0
  obtain ⟨e1, e2⟩ := IntOp.andi_eq_one.1 e
  obtain ⟨eq, ek⟩ := IntOp.andi_eq_one.1 e1
  obtain ⟨ewq, ewk⟩ := IntOp.andi_eq_one.1 e2
  exact ⟨real_of_all _ _ _ _ eq, real_of_all _ _ _ _ ek, real_of_all _ _ _ _ ewq, real_of_all _ _ _ _ ewk⟩

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference program's frame: its arguments end as launched; it declares no semaphore. -/
theorem frame_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- The idealized kernel's frame. -/
theorem frame_ideal : Cert.quiescent_KernelIdeal := fun m ρ _ =>
  (θ_run Cert.KernelIdeal.defs _ _).mono (fun r h => ⟨fun c => (h.1 c).2, h.2⟩) (Cert.KernelIdeal.Hand.run (F := Ideal) m ρ)

/-- The results agree where the precondition holds. -/
theorem same : Cert.algebraic_KernelIdeal_ReferenceIdeal_pre_finite_scores := by
  intro m g m' g' pre agree
  refine ⟨fun c => Cert.KernelIdeal.Hand.resultBuf m c, ?_, ?_⟩
  · exact (θ_run Cert.KernelIdeal.defs _ _).mono (fun r h => h.1) (Cert.KernelIdeal.Hand.run (F := Ideal) m g)
  · refine (θ_run Cert.ReferenceIdeal.defs _ _).mono (fun r h c => ⟨?_, (h c).2⟩) (Cert.ReferenceIdeal.Value.run (F := Ideal) m' g')
    refine (h c).1.trans ((Cert.ReferenceIdeal.Hand.res_eq m' c).trans ?_)
    obtain ⟨a0, a1, a2, a3, a4, a5, a6⟩ := agree c
    rw [a0, a1, a2, a3, a4, a5, a6]
    exact (Cert.Equal.value_eq (Cert.Equal.finite_of_pre pre c)).symm

/-- The certificate. -/
theorem claim : Cert.Claim := ⟨Cert.Kernel.Gen.facts, Cert.KernelIdeal.Gen.facts, Cert.ReferenceIdeal.Gen.facts, Cert.Equal.preFacts,
  fun m ρ _ => Cert.Kernel.Hand.frame m ρ, frame_ideal, fun m ρ _ => frame_ideal m ρ trivial,
  frame_reference, fun m ρ _ => frame_reference m ρ trivial, trivial, same⟩

end Cert.Proof

end
